-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S256x256 : Shape := ⟨2, ![256, 256]⟩
abbrev S3x256x256 : Shape := ⟨3, ![3, 256, 256]⟩
abbrev S3 : Shape := ⟨1, ![3]⟩
abbrev S_ : Shape := ⟨0, ![]⟩
abbrev S1x256x256 : Shape := ⟨3, ![1, 256, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x256x1024, .bf16⟩
  | .hbm, ⟨1, _⟩ => ⟨S256x256, .bf16⟩
  | .local _ .vmem, ⟨0, _⟩ => ⟨S1x256x1024, .bf16⟩
  | .local _ .vmem, ⟨1, _⟩ => ⟨S256x256, .bf16⟩
  | .local _ .vmem, ⟨2, _⟩ => ⟨S3x256x256, .bf16⟩
  | .local _ .vmem, ⟨3, _⟩ => ⟨S3x256x256, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.addi v2 c2_i32
  let c4_i32_0 : BitVec 32 := 4#32
  let c0_i32 : BitVec 32 := 0#32
  let v5 : BitVec 1 := Scalar.cmpi .eq c4_i32_0 c0_i32
  let c1_i32_1 : BitVec 32 := 1#32
  let v6 : BitVec 32 := Scalar.select v5 c1_i32_1 c4_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v17 : BitVec 32 := Scalar.addi v2 c1_i32_8
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_27 : BitVec 32) : Fin 3 → Nat :=
  let c0 : Index := 0#32
  let c0_34 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c2_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c256_i32 : BitVec 32 := 256#32
  let v54 : BitVec 32 := Scalar.muli v53 c256_i32
  let v55 : Index := Scalar.indexCast v54
  ![0, 0, v55.toNat]
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v97 : BitVec 32 := Scalar.addi v2 c2_i32_63
  let c4_i32_64 : BitVec 32 := 4#32
  let c0_i32_65 : BitVec 32 := 0#32
  let v98 : BitVec 1 := Scalar.cmpi .eq c4_i32_64 c0_i32_65
  let c1_i32_66 : BitVec 32 := 1#32
  let v99 : BitVec 32 := Scalar.select v98 c1_i32_66 c4_i32_64
  let v100 : BitVec 32 := Scalar.remsi v97 v99
  let c0_i32_68 : BitVec 32 := 0#32
  let v102 : BitVec 1 := Scalar.cmpi .slt v100 c0_i32_68
  let c0_i32_69 : BitVec 32 := 0#32
  let v103 : BitVec 1 := Scalar.cmpi .slt v99 c0_i32_69
  let v104 : BitVec 1 := Scalar.xori v102 v103
  let c0_i32_67 : BitVec 32 := 0#32
  let v101 : BitVec 1 := Scalar.cmpi .ne v100 c0_i32_67
  let v105 : BitVec 1 := Scalar.andi v104 v101
  let v106 : BitVec 32 := Scalar.addi v100 v99
  let v107 : BitVec 32 := Scalar.select v105 v106 v100
  let c1_i32_74 : BitVec 32 := 1#32
  let v108 : BitVec 32 := Scalar.muli v107 c1_i32_74
  let v109 : BitVec 32 := Scalar.addi c0_i32_75 v108
  v109.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v118 : BitVec 32 := Scalar.addi v2 c1_i32_80
  let c4_i32_81 : BitVec 32 := 4#32
  let c0_i32_82 : BitVec 32 := 0#32
  let v119 : BitVec 1 := Scalar.cmpi .eq c4_i32_81 c0_i32_82
  let c1_i32_83 : BitVec 32 := 1#32
  let v120 : BitVec 32 := Scalar.select v119 c1_i32_83 c4_i32_81
  let v121 : BitVec 32 := Scalar.remsi v118 v120
  let c0_i32_85 : BitVec 32 := 0#32
  let v123 : BitVec 1 := Scalar.cmpi .slt v121 c0_i32_85
  let c0_i32_86 : BitVec 32 := 0#32
  let v124 : BitVec 1 := Scalar.cmpi .slt v120 c0_i32_86
  let v125 : BitVec 1 := Scalar.xori v123 v124
  let c0_i32_84 : BitVec 32 := 0#32
  let v122 : BitVec 1 := Scalar.cmpi .ne v121 c0_i32_84
  let v126 : BitVec 1 := Scalar.andi v125 v122
  let v127 : BitVec 32 := Scalar.addi v121 v120
  let v128 : BitVec 32 := Scalar.select v126 v127 v121
  let c1_i32_91 : BitVec 32 := 1#32
  let v129 : BitVec 32 := Scalar.muli v128 c1_i32_91
  let v130 : BitVec 32 := Scalar.addi c0_i32_92 v129
  v130.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_97 : BitVec 32 := 3#32
  let v139 : BitVec 32 := Scalar.addi v2 c3_i32_97
  let c4_i32_98 : BitVec 32 := 4#32
  let c0_i32_99 : BitVec 32 := 0#32
  let v140 : BitVec 1 := Scalar.cmpi .eq c4_i32_98 c0_i32_99
  let c1_i32_100 : BitVec 32 := 1#32
  let v141 : BitVec 32 := Scalar.select v140 c1_i32_100 c4_i32_98
  let v142 : BitVec 32 := Scalar.remsi v139 v141
  let c0_i32_102 : BitVec 32 := 0#32
  let v144 : BitVec 1 := Scalar.cmpi .slt v142 c0_i32_102
  let c0_i32_103 : BitVec 32 := 0#32
  let v145 : BitVec 1 := Scalar.cmpi .slt v141 c0_i32_103
  let v146 : BitVec 1 := Scalar.xori v144 v145
  let c0_i32_101 : BitVec 32 := 0#32
  let v143 : BitVec 1 := Scalar.cmpi .ne v142 c0_i32_101
  let v147 : BitVec 1 := Scalar.andi v146 v143
  let v148 : BitVec 32 := Scalar.addi v142 v141
  let v149 : BitVec 32 := Scalar.select v147 v148 v142
  let c1_i32_108 : BitVec 32 := 1#32
  let v150 : BitVec 32 := Scalar.muli v149 c1_i32_108
  let v151 : BitVec 32 := Scalar.addi c0_i32_109 v150
  v151.toNat
def k0_off2 (d0 : Dev nD) : Fin 3 → Nat :=
  let c0_115 : Index := 0#32
  let c0_116 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_114 : BitVec 32 := 256#32
  let v160 : BitVec 32 := Scalar.muli v2 c256_i32_114
  let v161 : Index := Scalar.indexCast v160
  ![0, 0, v161.toNat]
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | .hbm, ⟨4, _⟩ => ⟨S256x1024, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Slots.lean ====
/-
  The mesh and the buffers of the four-device reduce-scatter, before any ownership: who sends to whom in each of the
  three slots, the memrefs that name a slot of the send and of the landing buffer, the semaphores of a slot, the column
  block of `x` meant for a device, and what a slot reads after a store.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Value
public import Idealize.ShloMosaic.Lib.ViewIndex
public import Idealize.ShloMosaic.Lib.Exec.Geometry
public import Idealize.ShloMosaic.Lib.Pipeline.Kit
public import Idealize.ShloMosaic.Lib.Tactic

@[expose] public section

noncomputable section

namespace Cert.ScatterProof

open Cert.KernelIdeal Cert.KernelIdeal.Gen
open Idealize.ShloMosaic Idealize.ShloMosaic.TcCoe

variable {F : FTy → Type} [FloatOps F]

/-! ## Who sends to whom -/

/-- How far round the mesh slot `k` travels. -/
def hop (k : Fin 3) : ℕ := (![2, 1, 3] : Fin 3 → ℕ) k

set_option backward.proofsInPublic true in
/-- The device that receives device `c`'s slot `k`. -/
def dest (k : Fin 3) (c : Dev nD) : Dev nD := ⟨(c.val + hop k) % 4, Nat.mod_lt _ (by decide)⟩

set_option backward.proofsInPublic true in
/-- The device whose slot `k` device `c` receives. -/
def orig (k : Fin 3) (c : Dev nD) : Dev nD := ⟨(c.val + (4 - hop k)) % 4, Nat.mod_lt _ (by decide)⟩

/-- The slot that travels back the way slot `k` came. -/
def back (k : Fin 3) : Fin 3 := (![0, 2, 1] : Fin 3 → Fin 3) k

/-- Receiving undoes sending. -/
theorem orig_dest (k : Fin 3) (c : Dev nD) : orig k (dest k c) = c := by revert k c; decide
/-- Sending undoes receiving. -/
theorem dest_orig (k : Fin 3) (c : Dev nD) : dest k (orig k c) = c := by revert k c; decide
/-- The way back from a destination leads home. -/
theorem dest_back (k : Fin 3) (c : Dev nD) : dest (back k) (dest k c) = c := by revert k c; decide
/-- Home again, starting with the way back. -/
theorem dest_of_back (k : Fin 3) (c : Dev nD) : dest k (dest (back k) c) = c := by revert k c; decide
/-- The way back of the way back is the way there. -/
theorem back_back (k : Fin 3) : back (back k) = k := by revert k; decide

/-- Slot `k`'s journey as a permutation of the mesh. -/
def turn (k : Fin 3) : Dev nD ≃ Dev nD := ⟨dest k, orig k, orig_dest k, dest_orig k⟩
/-- The way back as a permutation of the slots. -/
def flip : Fin 3 ≃ Fin 3 := ⟨back, back, back_back, back_back⟩

/-- The first signal goes where slot 0 goes. -/
theorem dev1_eq (c : Dev nD) : (⟨k0_dev1 c, k0_dev1_lt c⟩ : Dev nD) = dest 0 c := Fin.ext (by revert c; decide)
/-- The second signal goes where slot 1 goes. -/
theorem dev2_eq (c : Dev nD) : (⟨k0_dev2 c, k0_dev2_lt c⟩ : Dev nD) = dest 1 c := Fin.ext (by revert c; decide)
/-- The third signal goes where slot 2 goes. -/
theorem dev3_eq (c : Dev nD) : (⟨k0_dev3 c, k0_dev3_lt c⟩ : Dev nD) = dest 2 c := Fin.ext (by revert c; decide)
/-- The first copy is addressed to slot 0's destination. -/
theorem dev4_eq (c : Dev nD) : (⟨k0_dev4 c, k0_dev4_lt c⟩ : Dev nD) = dest 0 c := Fin.ext (by revert c; decide)
/-- The second copy is addressed to slot 1's destination. -/
theorem dev5_eq (c : Dev nD) : (⟨k0_dev5 c, k0_dev5_lt c⟩ : Dev nD) = dest 1 c := Fin.ext (by revert c; decide)
/-- The third copy is addressed to slot 2's destination. -/
theorem dev6_eq (c : Dev nD) : (⟨k0_dev6 c, k0_dev6_lt c⟩ : Dev nD) = dest 2 c := Fin.ext (by revert c; decide)

/-! ## The buffers and their slots -/

/-- The device's staged block of `x`. -/
abbrev xM : Memref sig .tc .vmem S1x256x1024 .bf16 := Memref.whole cc0_stg0_0
/-- The device's staged result. -/
abbrev oM : Memref sig .tc .vmem S256x256 .bf16 := Memref.whole cc0_stg1_0
/-- The send buffer, three slots. -/
abbrev sM : Memref sig .tc .vmem S3x256x256 .bf16 := Memref.whole cc0_scratch0
/-- The landing buffer, three slots. -/
abbrev rM : Memref sig .tc .vmem S3x256x256 .bf16 := Memref.whole cc0_scratch1

/-- Slot `k` lies within a three-slot buffer. -/
theorem slot_inb (k : Fin 3) : ∀ a, (![k.val, 0, 0] : Fin 3 → Nat) a + S1x256x256.size a ≤ S3x256x256.size a := by
  revert k; decide

/-- Slot `k`'s rectangle. -/
abbrev slotR (k : Fin 3) : Rect S3x256x256 := Rect.unit (s := S3x256x256) ![k.val, 0, 0] S1x256x256.size (slot_inb k)

/-- Slot `k` of a three-slot buffer, as the copies name it. -/
abbrev slotOf (M : Memref sig .tc .vmem S3x256x256 .bf16) (k : Fin 3) : Memref sig .tc .vmem S256x256 .bf16 :=
  (M.slice (slotR k) (fun _ => rfl)).squeeze S256x256 squeezes_S1x256x256_S256x256

/-- Slot `k` lies within the three semaphores of an array. -/
theorem sem_inb (k : Fin 3) : ∀ a, (![k.val] : Fin 1 → Nat) a + S1.size a ≤ S3.size a := by revert k; decide

/-- Semaphore `k` of an array of three, as the copies and waits name it. -/
abbrev semOf (a : DmaSems sig S3) (k : Fin 3) : DmaSem sig :=
  ((a.slice (Rect.unit (s := S3) ![k.val] S1.size (sem_inb k))).squeeze S_ squeezes_S1_S_).sem

/-- The semaphore on which slot `k`'s departure completes. -/
abbrev sendS (k : Fin 3) : DmaSem sig := semOf cc0_scratch2 k
/-- The semaphore on which slot `k`'s arrival completes. -/
abbrev recvS (k : Fin 3) : DmaSem sig := semOf cc0_scratch3 k
/-- The barrier semaphore. -/
abbrev barS : Sem sig := (SemArray.scalar (sig.barrier 0 rfl) : Sems sig S_).sem

/-- An index of slot `k` has first coordinate `k`. -/
theorem mem_slotR (k : Fin 3) (i : S3x256x256.Idx) : i ∈ (slotR k).set ↔ (i 0).val = k.val := by
  rw [Rect.mem_set_unit]
  constructor
  · intro h
    have h0 := h 0
    have : S1x256x256.size 0 = 1 := rfl
    simp only [Matrix.cons_val_zero] at h0
    omega
  · intro h a
    have hi := (i a).isLt
    match a, hi with
    | ⟨0, _⟩, _ =>
      show k.val ≤ (i 0).val ∧ (i 0).val < k.val + 1
      omega
    | ⟨1, _⟩, hi =>
      show 0 ≤ (i 1).val ∧ (i 1).val < 0 + 256
      exact ⟨Nat.zero_le _, by rw [Nat.zero_add]; exact hi⟩
    | ⟨2, _⟩, hi =>
      show 0 ≤ (i 2).val ∧ (i 2).val < 0 + 256
      exact ⟨Nat.zero_le _, by rw [Nat.zero_add]; exact hi⟩

/-- The elements of slot `k` are those of its rectangle. -/
theorem set_slotOf (M : Memref sig .tc .vmem S3x256x256 .bf16) (k : Fin 3) :
    (slotOf M k).view.set = (M.view.slice (slotR k)).set := Memref.set_view_squeeze _ _

/-- Different slots share no element. -/
theorem slots_disjoint (M : Memref sig .tc .vmem S3x256x256 .bf16) (k k' : Fin 3) (h : k ≠ k') :
    Disjoint (slotOf M k).view.set (slotOf M k').view.set := by
  rw [set_slotOf, set_slotOf]
  refine View.disjoint_slice (Finset.disjoint_left.mpr fun i hi hi' => h (Fin.ext ?_))
  rw [← (mem_slotR k i).mp hi, ← (mem_slotR k' i).mp hi']

/-- The elements of slot `k`, as elements of the whole buffer. -/
abbrev slotSet (M : Memref sig .tc .vmem S3x256x256 .bf16) (k : Fin 3) : Finset M.view.ty.Idx := (slotOf M k).view.set

/-- The three slots cover a buffer that is whole. -/
theorem slots_cover (M : Memref sig .tc .vmem S3x256x256 .bf16) (hM : M.view.set = Finset.univ) :
    Finset.univ.biUnion (slotSet M) = Finset.univ := by
  refine Finset.eq_univ_of_forall fun i => ?_
  have hi : i ∈ M.view.set := by rw [hM]; exact Finset.mem_univ i
  obtain ⟨x, -, rfl⟩ := Finset.mem_map.mp hi
  have key (k : Fin 3) (h : (x 0).val = k.val) : M.view.emb x ∈ slotSet M k := by
    unfold slotSet
    rw [set_slotOf, View.set_slice]
    exact Finset.mem_map.mpr ⟨x, (mem_slotR k x).mpr h, rfl⟩
  exact Finset.mem_biUnion.mpr ⟨⟨(x 0).val, (x 0).isLt⟩, Finset.mem_univ _, key _ rfl⟩

/-! ## Column blocks -/

/-- Column block `d` lies within `x`. -/
theorem chunk_inb (d : Dev nD) : ∀ a, (![0, 0, 256 * d.val] : Fin 3 → Nat) a + S1x256x256.size a ≤ S1x256x1024.size a := by
  revert d; decide

/-- Column block `d` of a staged `x`, as a load reads it. -/
def chunk (x : (cc0_stg0_0 : Ref sig .tc).ty.Contents (Elt F)) (d : Dev nD) : Vec F S1x256x256 .bf16 :=
  (xM : Memref sig .tc .vmem S1x256x1024 .bf16).view.readAt (Elt F)
    (Rect.unit (s := S1x256x1024) ![0, 0, 256 * d.val] S1x256x256.size (chunk_inb d)).toLoadRect x

/-- Column block `d` of a staged `x` as a matrix. -/
def blockOf (x : (cc0_stg0_0 : Ref sig .tc).ty.Contents (Elt F)) (d : Dev nD) : Vec F S256x256 .bf16 :=
  shapeCast S256x256 (chunk x d) shapeCasts_S1x256x256_S256x256

/-- The first block loaded for sending is slot 0's destination's. -/
theorem off_slot0 (c : Dev nD) : k0_off1 c 2#32 = ![0, 0, 256 * (dest 0 c).val] := by revert c; decide
/-- The second block loaded for sending is slot 1's destination's. -/
theorem off_slot1 (c : Dev nD) : k0_off1 c 1#32 = ![0, 0, 256 * (dest 1 c).val] := by revert c; decide
/-- The third block loaded for sending is slot 2's destination's. -/
theorem off_slot2 (c : Dev nD) : k0_off1 c 3#32 = ![0, 0, 256 * (dest 2 c).val] := by revert c; decide
/-- The block kept is the device's own. -/
theorem off_own (c : Dev nD) : k0_off2 c = ![0, 0, 256 * c.val] := by revert c; decide

/-- A load at the offset of column block `d` reads that block. -/
theorem load_chunk (x : (cc0_stg0_0 : Ref sig .tc).ty.Contents (Elt F)) (d : Dev nD) {off : Fin 3 → Nat}
    (inb : ∀ a, off a + S1x256x256.size a ≤ S1x256x1024.size a) (h : off = ![0, 0, 256 * d.val]) :
    (xM : Memref sig .tc .vmem S1x256x1024 .bf16).view.readAt (Elt F)
      (Rect.unit (s := S1x256x1024) off S1x256x256.size inb).toLoadRect x = chunk x d := by
  subst h; rfl

/-- Reshaping a block for the store and back changes nothing. -/
theorem pay1_eq (v : Vec F S1x256x256 .bf16) : k0_pay1 v = v := shapeCast_shapeCast v _ _
/-- The same for the second store. -/
theorem pay2_eq (v : Vec F S1x256x256 .bf16) : k0_pay2 v = v := shapeCast_shapeCast v _ _
/-- The same for the third store. -/
theorem pay3_eq (v : Vec F S1x256x256 .bf16) : k0_pay3 v = v := shapeCast_shapeCast v _ _

/-- A slot just stored reads back what was stored. -/
theorem read_stored (M : Memref sig .tc .vmem S3x256x256 .bf16) (k : Fin 3) (f : M.view.ty.Contents (Elt F))
    (w : Vec F S1x256x256 .bf16) :
    (slotOf M k).view.read (Elt F) ((M.access (slotR k)).write (Elt F) f w Finset.univ)
      = shapeCast S256x256 w shapeCasts_S1x256x256_S256x256 := by
  refine (Memref.read_squeeze_slice M (slotR k) (fun _ => rfl) squeezes_S1x256x256_S256x256 shapeCasts_S1x256x256_S256x256 _).trans ?_
  exact congrArg (fun v => shapeCast S256x256 v shapeCasts_S1x256x256_S256x256) (View.read_write_univ (v := M.access (slotR k)) f w)

/-- A load of slot `k`, reshaped to a matrix, is what the slot reads. -/
theorem load_slot (M : Memref sig .tc .vmem S3x256x256 .bf16) (k : Fin 3) (f : M.view.ty.Contents (Elt F)) :
    shapeCast S256x256 (M.view.readAt (Elt F) (slotR k).toLoadRect f) shapeCasts_S1x256x256_S256x256
      = (slotOf M k).view.read (Elt F) f := rfl

end Cert.ScatterProof

end
-- ==== Proof.Protocol.lean ====
/-
  The protocol of the reduce-scatter: what each semaphore cell of a device waits for, what every unit paid into it hands
  over, what a device owes when the kernel starts, and the order in which it may wait.

  A device has seven cells. Its BARRIER cell has three duties of one unit, one per slot: duty `k` is paid by the
  destination of the device's slot `k`, which hands over slot `k` of its landing buffer. So a device that has waited for
  three units holds the three places its three copies write to. The SEND cell of slot `k` has one duty, paid when the
  copy of slot `k` has left: the slot of the send buffer comes back. The RECEIVE cell of slot `k` has one duty, paid when
  the copy from `orig k` has landed: the slot of the landing buffer comes back, holding the column block of that device's
  `x` that is meant for this one.
-/
module

public import proofs.«01_k».proof.Proof.Slots
public import Idealize.ShloMosaic.Lib.Rounds
public import Idealize.ShloMosaic.Lib.Pipeline.Launch

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging cells' copy of the rounds library and the protocol's, whose duties are slots -/

abbrev UP : Type := URounds (GSem nD τ sig) (Fin 3)
abbrev UU : Type := UR sig nD τ × UP

local notation "𝕄" => MT nD τ sig Unit (Elt F) ℕ UU ℕ

abbrev EStage : Emb (UR sig nD τ) (MT nD τ sig Unit (Elt F) ℕ UU ℕ) := embL
abbrev EP : Emb UP (MT nD τ sig Unit (Elt F) ℕ UU ℕ) := embR

variable (m : (ℓ : Loc nD τ sig) → Buf (Elt F) ℓ) (ρ : Dev nD → PrngReg)

/-- The memory at launch: any contents, every counter at zero, any generator registers. -/
def start₀ : MemSt nD τ sig (Elt F) := ⟨m, fun _ => 0, ρ⟩

/-! ## The cells -/

/-- A device's cells: the barrier, and per slot one for its departure (`false`) and one for its arrival (`true`). -/
abbrev CK : Type := Option (Bool × Fin 3)
abbrev kBar : CK := none
abbrev kSend (k : Fin 3) : CK := some (false, k)
abbrev kRecv (k : Fin 3) : CK := some (true, k)

/-- The kernel's own semaphores: the six of its two scratch arrays. -/
abbrev ownSem : Bool × Fin 3 → SemLoc sig := fun p => if p.1 then .dma (recvS p.2) else .dma (sendS p.2)
/-- The semaphore behind a cell. -/
abbrev semAt : CK → SemLoc sig
  | none => .reg barS
  | some p => ownSem p

/-- Cell `k` of device `c`. -/
abbrev cellAt (ck : Dev nD × CK) : GSem nD τ sig := ((ck.1 : Thread nD τ), semAt ck.2)
abbrev barC (c : Dev nD) : GSem nD τ sig := ((c : Thread nD τ), .reg barS)
abbrev sendC (c : Dev nD) (k : Fin 3) : GSem nD τ sig := ((c : Thread nD τ), .dma (sendS k))
abbrev recvC (c : Dev nD) (k : Fin 3) : GSem nD τ sig := ((c : Thread nD τ), .dma (recvS k))

/-- The six scratch semaphores are the kernel's own: scoped, distinct, none of them a staging semaphore. -/
theorem ownFacts : Pipeline.OwnSemFacts cfg0.spec ownSem := by decide

/-- Different cells of a device have different semaphores. -/
theorem semAt_inj : Function.Injective semAt
  | none, none, _ => rfl
  | none, some (false, k), h => by simp [semAt, ownSem] at h
  | none, some (true, k), h => by simp [semAt, ownSem] at h
  | some (false, k), none, h => by simp [semAt, ownSem] at h
  | some (true, k), none, h => by simp [semAt, ownSem] at h
  | some p, some q, h => congrArg some (ownFacts.inj h)

/-- Different cells of the mesh are different. -/
theorem cellAt_inj : Function.Injective (cellAt : Dev nD × CK → GSem nD τ sig) := by
  rintro ⟨c, k⟩ ⟨c', k'⟩ h
  have h1 : c = c' := congrArg (fun g : GSem nD τ sig => g.1.1) h
  have h2 : k = k' := semAt_inj (congrArg Prod.snd h)
  rw [h1, h2]

/-- Which of a device's cells a semaphore is, if any. -/
def role (s : SemLoc sig) : Option CK := by
  classical exact if h : ∃ k, semAt k = s then some h.choose else none

/-- A cell's semaphore plays that cell's role. -/
theorem role_semAt (k : CK) : role (semAt k) = some k := by
  unfold role
  have h : ∃ k', semAt k' = semAt k := ⟨k, rfl⟩
  rw [dif_pos h]
  exact congrArg some (semAt_inj h.choose_spec)

/-- The units one copy pays: those of a slot. -/
abbrev N : ℕ := (slotOf rM 0).view.dmaCredit
/-- A slot is not empty. -/
theorem N_pos : 0 < N := View.dmaCredit_pos _ (by decide)

/-! ## What the cells hand over -/

/-- Device `c`'s block of `x` as the kernel finds it staged. -/
def xAt (c : Dev nD) : (cc0_stg0_0 : Ref sig .tc).ty.Contents (Elt F) :=
  (win0_0.blk (0 : Fin 1)).view.read (Elt F) ((start₀ m ρ).mem ((c : Thread nD τ).loc main_arg0))

/-- Slot `k` of device `c`'s buffer `M`, held at contents `f`. -/
def slotPts (M : Memref sig .tc .vmem S3x256x256 .bf16) (c : Dev nD) (k : Fin 3)
    (f : Buf (Elt F) ((slotOf M k).view.loc (c : Thread nD τ))) : sProp 𝕄 :=
  (slotOf M k).view.loc (c : Thread nD τ) ↦[(slotOf M k).view.set]{fullShare} f

instance slotPts_storable (M : Memref sig .tc .vmem S3x256x256 .bf16) (c : Dev nD) (k : Fin 3) (f) :
    BI.Storable (upEmb : UEmb _ 𝕄) (slotPts (F := F) M c k f) := by unfold slotPts; infer_instance

/-- What a barrier unit hands device `c`: the landing slot `k` of the device its slot `k` goes to, with the record that
    this device has entered the arrival cell's round. -/
def barPay (c : Dev nD) (k : Fin 3) : sProp 𝕄 :=
  iprop((∃ f, slotPts (F := F) rM (dest k c) k f) ∗ reached EP (recvC (dest k c) k) 0)
/-- What a departure hands back: the slot of the send buffer. -/
def sendPay (c : Dev nD) (k : Fin 3) : sProp 𝕄 := iprop(∃ f, slotPts (F := F) sM c k f)
/-- What an arrival hands over: the slot of the landing buffer, holding the block sent to it. -/
def recvPay (c : Dev nD) (k : Fin 3) : sProp 𝕄 :=
  iprop(∃ f, ⌜(slotOf rM k).view.read (Elt F) f = blockOf (xAt m ρ (orig k c)) c⌝ ∗ slotPts (F := F) rM c k f)

/-- The duties of a cell. -/
def dutiesOf : Option CK → Finset (Fin 3)
  | some none => Finset.univ
  | some (some _) => {0}
  | none => ∅

/-- What each duty of a cell hands over. -/
def payOf (c : Dev nD) (d : Fin 3) : Option CK → sProp 𝕄
  | some none => barPay c d
  | some (some (false, k)) => sendPay c k
  | some (some (true, k)) => recvPay m ρ c k
  | none => iprop(emp)

/-- The units of a duty. -/
def unitsOf : Option CK → ℕ
  | some (some _) => N
  | _ => 1

/-- Every cell has one round, the first. -/
def sched : Rounds.Schedule (GSem nD τ sig) (Fin 3) 𝕄 where
  duties g r := if r = 0 ∧ g.1.2 = .tc then dutiesOf (role g.2) else ∅
  unitless _ := False
  amount g _ _ := unitsOf (role g.2)
  payload g _ d := payOf m ρ g.1.1 d (role g.2)
  amount_pos g _ _ _ := by
    unfold unitsOf
    split
    · exact N_pos
    · exact Nat.one_pos

instance sched_storable (g : GSem nD τ sig) (r : ℕ) (d : Fin 3) :
    BI.Storable (upEmb : UEmb _ 𝕄) ((sched (F := F) m ρ).payload g r d) := by
  show BI.Storable upEmb (payOf m ρ g.1.1 d (role g.2))
  unfold payOf barPay sendPay recvPay
  split <;> infer_instance

section Tables

variable (c : Dev nD) (k d : Fin 3)

omit [FloatOps F] in
/-- In its first round a cell has the duties of its kind. -/
theorem duties_cell (ck : CK) : (sched (F := F) m ρ).duties (cellAt (c, ck)) 0 = dutiesOf (some ck) := by
  dsimp only [sched]; rw [if_pos ⟨rfl, rfl⟩, role_semAt]
omit [FloatOps F] in
/-- The barrier's duties are the three slots. -/
theorem duties_bar : (sched (F := F) m ρ).duties (barC c) 0 = Finset.univ := duties_cell m ρ c kBar
omit [FloatOps F] in
/-- A departure is one duty. -/
theorem duties_send : (sched (F := F) m ρ).duties (sendC c k) 0 = {0} := duties_cell m ρ c (kSend k)
omit [FloatOps F] in
/-- An arrival is one duty. -/
theorem duties_recv : (sched (F := F) m ρ).duties (recvC c k) 0 = {0} := duties_cell m ρ c (kRecv k)
omit [FloatOps F] in
/-- No cell has a second round. -/
theorem duties_later (g : GSem nD τ sig) : ∀ r, 1 ≤ r → (sched (F := F) m ρ).duties g r = ∅ := fun r hr => by
  dsimp only [sched]; rw [if_neg fun h => by omega]

omit [FloatOps F] in
/-- A barrier duty is one unit. -/
theorem amount_bar : (sched (F := F) m ρ).amount (barC c) 0 d = 1 := by
  show unitsOf (role (semAt kBar)) = 1; rw [role_semAt]; rfl
omit [FloatOps F] in
/-- A departure pays a slot's units. -/
theorem amount_send : (sched (F := F) m ρ).amount (sendC c k) 0 d = N := by
  show unitsOf (role (semAt (kSend k))) = N; rw [role_semAt]; rfl
omit [FloatOps F] in
/-- An arrival pays a slot's units. -/
theorem amount_recv : (sched (F := F) m ρ).amount (recvC c k) 0 d = N := by
  show unitsOf (role (semAt (kRecv k))) = N; rw [role_semAt]; rfl

omit [FloatOps F] in
/-- The barrier's round takes three units. -/
theorem expect_bar : (sched (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
omit [FloatOps F] in
/-- A departure's round takes a slot's units. -/
theorem expect_send : (sched (F := F) m ρ).expect (sendC c k) 0 = N := by
  unfold Schedule.expect Schedule.amountOf; rw [duties_send, Finset.sum_singleton, amount_send]
omit [FloatOps F] in
/-- An arrival's round takes a slot's units. -/
theorem expect_recv : (sched (F := F) m ρ).expect (recvC c k) 0 = N := by
  unfold Schedule.expect Schedule.amountOf; rw [duties_recv, Finset.sum_singleton, amount_recv]

omit [FloatOps F] in
/-- The barrier's payloads. -/
theorem payload_bar : (sched (F := F) m ρ).payload (barC c) 0 d = barPay c d := by
  show payOf m ρ c d (role (semAt kBar)) = _; rw [role_semAt]; rfl
omit [FloatOps F] in
/-- A departure's payload. -/
theorem payload_send : (sched (F := F) m ρ).payload (sendC c k) 0 d = sendPay c k := by
  show payOf m ρ c d (role (semAt (kSend k))) = _; rw [role_semAt]; rfl
omit [FloatOps F] in
/-- An arrival's payload. -/
theorem payload_recv : (sched (F := F) m ρ).payload (recvC c k) 0 d = recvPay m ρ c k := by
  show payOf m ρ c d (role (semAt (kRecv k))) = _; rw [role_semAt]; rfl

omit [FloatOps F] in
/-- A conjunction over the three slots, written out. -/
theorem bigSep_slots (Φ : Fin 3 → sProp 𝕄) : bigSep Finset.univ Φ = iprop(Φ 0 ∗ Φ 1 ∗ Φ 2) :=
  bigSep_univ_eq_bigSepL [0, 1, 2] (by decide) (by decide) Φ

omit [FloatOps F] in
/-- Waiting for the barrier's three units yields the three landing slots. -/
theorem rest_bar : bigSep ((sched (F := F) m ρ).duties (barC c) 0 \ ∅) (fun d => (sched (F := F) m ρ).payload (barC c) 0 d)
    = iprop(barPay c 0 ∗ barPay c 1 ∗ barPay c 2) := by
  rw [Finset.sdiff_empty, duties_bar, bigSep_slots, payload_bar, payload_bar, payload_bar]
omit [FloatOps F] in
/-- Waiting for a departure yields the sent slot. -/
theorem rest_send : bigSep ((sched (F := F) m ρ).duties (sendC c k) 0 \ ∅) (fun d => (sched (F := F) m ρ).payload (sendC c k) 0 d) = sendPay c k := by
  rw [Finset.sdiff_empty, duties_send, bigSep_singleton, payload_send]
omit [FloatOps F] in
/-- Waiting for an arrival yields the landed slot. -/
theorem rest_recv : bigSep ((sched (F := F) m ρ).duties (recvC c k) 0 \ ∅) (fun d => (sched (F := F) m ρ).payload (recvC c k) 0 d) = recvPay m ρ c k := by
  rw [Finset.sdiff_empty, duties_recv, bigSep_singleton, payload_recv]

end Tables

/-! ## What a device owes, and the order of the waits -/

/-- The unit device `c` owes the barrier of slot `k`'s destination. -/
def dueBar (c : Dev nD) (k : Fin 3) : CellTallies nD τ sig Unit := tallyAt (barC (dest k c)) () 1
/-- The units device `c` owes the arrival cell of slot `k`'s destination. -/
def dueRecv (c : Dev nD) (k : Fin 3) : CellTallies nD τ sig Unit := tallyAt (recvC (dest k c) k) () N
/-- What device `c` owes after its signals: the three arrivals. -/
def oweRecv (c : Dev nD) : CellTallies nD τ sig Unit := dueRecv c 2 + dueRecv c 1 + dueRecv c 0
/-- What device `c` owes at launch, in the order in which it pays, the last summand first. -/
def owe₀ (c : Dev nD) : CellTallies nD τ sig Unit := oweRecv c + dueBar c 2 + dueBar c 1 + dueBar c 0

/-- Every cell of a core may be waited for under one index. -/
def lvls (g : GSem nD τ sig) : Finset Unit := if g.1.2 = .tc then {()} else ∅
/-- The levels: barriers at 1, arrivals at 2, everything else at 0. -/
def lvl (g : GSem nD τ sig) (_ : Unit) : ℕ := match role g.2 with
  | some none => 1
  | some (some (true, _)) => 2
  | _ => 0

/-- Off the cores there is nothing to wait for. -/
theorem lvls_of_ne (g : GSem nD τ sig) (h : g.1.2 ≠ .tc) : lvls g = ∅ := if_neg h
/-- On a core there is. -/
theorem lvls_tc (c : Dev nD) (s : SemLoc sig) : lvls ((c : Thread nD τ), s) = {()} := if_pos rfl
/-- A barrier's level. -/
theorem lvl_bar (c : Dev nD) : lvl (barC c) () = 1 := by
  show (match role (semAt kBar) with | some none => 1 | some (some (true, _)) => 2 | _ => 0) = 1
  rw [role_semAt]
/-- An arrival cell's level. -/
theorem lvl_recv (c : Dev nD) (k : Fin 3) : lvl (recvC c k) () = 2 := by
  show (match role (semAt (kRecv k)) with | some none => 1 | some (some (true, _)) => 2 | _ => 0) = 2
  rw [role_semAt]

/-- What is owed on a single cell is owed there and nowhere else. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- After its signals a device owes arrival cells only. -/
theorem oweRecv_pos {c : Dev nD} {g : GSem nD τ sig} {u : Unit} (h : 0 < oweRecv c g u) : ∃ k, g = recvC (dest k c) k := by
  unfold oweRecv dueRecv at h
  simp only [Pi.add_apply, Finsupp.add_apply] at h
  by_contra hn
  have hz (k : Fin 3) : (tallyAt (recvC (dest k c) k) () N : CellTallies nD τ sig Unit) g u = 0 :=
    Nat.eq_zero_of_not_pos fun hp => hn ⟨k, tally_pos hp⟩
  rw [hz, hz, hz] at h
  exact Nat.lt_irrefl 0 h

/-- At launch it owes arrival cells and barriers only. -/
theorem owe₀_pos {c : Dev nD} {g : GSem nD τ sig} {u : Unit} (h : 0 < owe₀ c g u) :
    (∃ k, g = recvC (dest k c) k) ∨ ∃ k, g = barC (dest k c) := by
  unfold owe₀ dueBar at h
  simp only [Pi.add_apply, Finsupp.add_apply] at h
  by_contra hn
  have hr : oweRecv c g u = 0 := Nat.eq_zero_of_not_pos fun hp => hn (.inl (oweRecv_pos hp))
  have hz (k : Fin 3) : (tallyAt (barC (dest k c)) () 1 : CellTallies nD τ sig Unit) g u = 0 :=
    Nat.eq_zero_of_not_pos fun hp => hn (.inr ⟨k, tally_pos hp⟩)
  rw [hr, hz, hz, hz] at h
  exact Nat.lt_irrefl 0 h

omit [FloatOps F] in
/-- A device may wait for its staging copies whatever it owes. -/
theorem mayWait_stage (c : Dev nD) (q : DmaSem sig) (hq : role (.dma q) = none) (O : CellTallies nD τ sig Unit)
    (hO : O = owe₀ c ∨ O = 0) : (levAts lvls lvl : sProp 𝕄) ⊢ MayWait (c : Thread nD τ) (.dma q) () O := by
  rcases hO with rfl | rfl
  · refine MayOwe.of_cut (L := lvls) (lev := lvl) 0 (fun p hp => by rw [Finset.mem_singleton.mp hp, lvls_tc]; exact Finset.mem_singleton_self _)
      (fun g u hg => by rcases owe₀_pos hg with ⟨k, rfl⟩ | ⟨k, rfl⟩ <;> exact Finset.mem_singleton_self _)
      (fun p hp => by
        rw [Finset.mem_singleton.mp hp]
        show (match role (.dma q) with | some none => 1 | some (some (true, _)) => 2 | _ => 0) ≤ 0
        rw [hq])
      (fun g u hg => by
        rcases owe₀_pos hg with ⟨k, rfl⟩ | ⟨k, rfl⟩
        · cases u; rw [lvl_recv]; decide
        · cases u; rw [lvl_bar]; decide)
  · rw [MayWait_zero]; iintro -; iempintro

omit [FloatOps F] in
/-- A device that owes arrivals only may wait for its barrier. -/
theorem mayWait_bar (c : Dev nD) : (levAts lvls lvl : sProp 𝕄) ⊢ MayWait (c : Thread nD τ) (.reg barS) () (oweRecv c) :=
  MayOwe.of_cut (L := lvls) (lev := lvl) 1 (fun p hp => by rw [Finset.mem_singleton.mp hp, lvls_tc]; exact Finset.mem_singleton_self _)
    (fun g u hg => by obtain ⟨k, rfl⟩ := oweRecv_pos hg; exact Finset.mem_singleton_self _)
    (fun p hp => by rw [Finset.mem_singleton.mp hp]; exact (lvl_bar c).le)
    (fun g u hg => by obtain ⟨k, rfl⟩ := oweRecv_pos hg; cases u; rw [lvl_recv]; decide)

/-! ## What a device's run starts from and ends with -/

/-- The records about slot `k` that device `c`'s run reads: the invariants of its own two cells of the slot and of the
    destination's barrier and arrival cell, and that their first rounds are open. -/
def facts (K : Dev nD × CK → ℕ) (c : Dev nD) (k : Fin 3) : sProp 𝕄 :=
  iprop(cellInv EP (sched m ρ) (K (c, kSend k)) (sendC c k) ∗ cellInv EP (sched m ρ) (K (c, kRecv k)) (recvC c k)
    ∗ cellInv EP (sched m ρ) (K (dest k c, kBar)) (barC (dest k c))
    ∗ cellInv EP (sched m ρ) (K (dest k c, kRecv k)) (recvC (dest k c) k)
    ∗ reached EP (barC (dest k c)) 0 ∗ reached EP (sendC c k) 0 ∗ reached EP (recvC c k) 0)

instance facts_persistent (K : Dev nD × CK → ℕ) (c : Dev nD) (k : Fin 3) : BI.Persistent (facts (F := F) m ρ K c k) := by
  unfold facts; infer_instance

/-- What device `c` holds about slot `k`: its places in its own two cells of the slot, and the tokens of the three
    duties it pays — the destination's barrier unit, the departure, the arrival. -/
def tickets (c : Dev nD) (k : Fin 3) : sProp 𝕄 :=
  iprop(atPos EP (sendC c k) 0 ∅ 0 ∗ atPos EP (recvC c k) 0 ∅ 0
    ∗ dutyTok EP (barC (dest k c)) 0 (back k) ∗ dutyTok EP (sendC c k) 0 0 ∗ dutyTok EP (recvC (dest k c) k) 0 0)

/-- The ghost state device `c` starts from. -/
def ghost (K : Dev nD × CK → ℕ) (c : Dev nD) : sProp 𝕄 :=
  iprop((cellInv EP (sched m ρ) (K (c, kBar)) (barC c) ∗ facts m ρ K c 0 ∗ facts m ρ K c 1 ∗ facts m ρ K c 2)
    ∗ atPos EP (barC c) 0 ∅ 0 ∗ tickets c 0 ∗ tickets c 1 ∗ tickets c 2)

/-- The three slots of a buffer, at any contents. -/
def slots (M : Memref sig .tc .vmem S3x256x256 .bf16) (c : Dev nD) : sProp 𝕄 :=
  iprop((∃ f, slotPts (F := F) M c 0 f) ∗ (∃ f, slotPts (F := F) M c 1 f) ∗ (∃ f, slotPts (F := F) M c 2 f))

/-- The credits device `c` will be paid: its barrier's three units and its three arrivals. -/
def creds (c : Dev nD) : sProp 𝕄 :=
  iprop(cred (tallyAt (barC c) () 3) ∗ cred (tallyAt (recvC c 0) () N) ∗ cred (tallyAt (recvC c 1) () N) ∗ cred (tallyAt (recvC c 2) () N))

/-- What device `c` has at launch besides its buffers. -/
def entry (c : Dev nD) : sProp 𝕄 := iprop((∃ K, ghost m ρ K c) ∗ creds c ∗ levAts lvls lvl)

/-- Before the kernel's body. -/
def before (c : Dev nD) : sProp 𝕄 := iprop(entry m ρ c ∗ slots (F := F) sM c ∗ slots (F := F) rM c)
/-- After it: both buffers whole again in their slots, every cell closed at zero. -/
def after (c : Dev nD) : sProp 𝕄 :=
  iprop((slots (F := F) sM c ∗ slots (F := F) rM c) ∗ semVal (barC c) 0
    ∗ (semVal (sendC c 0) 0 ∗ semVal (sendC c 1) 0 ∗ semVal (sendC c 2) 0)
    ∗ (semVal (recvC c 0) 0 ∗ semVal (recvC c 1) 0 ∗ semVal (recvC c 2) 0))

/-- The kernel's result on device `c`: its own column block plus the three that arrived. -/
def outAt (c : Dev nD) : (cc0_stg1_0 : Ref sig .tc).ty.Contents (Elt F) :=
  k0_pay5 (k0_pay4 (chunk (xAt m ρ c) c) (chunk (xAt m ρ (orig 1 c)) c) (chunk (xAt m ρ (orig 2 c)) c)) (chunk (xAt m ρ (orig 0 c)) c)

/-- The pipeline's account of the one call: what its windows hold, what the device owes. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xAt m ρ c
    | ⟨1, _⟩ => outAt m ρ c
  Φ t := match t with
    | ⟨0, _⟩ => before m ρ c
    | ⟨_ + 1, _⟩ => after c
  q _ := fullShare
  owed t := match t with
    | ⟨0, _⟩ => owe₀ c
    | ⟨_ + 1, _⟩ => 0

end Cert.ScatterProof

end
-- ==== Proof.Steps.lean ====
/-
  One rule per kind of effect the kernel performs, each stated once for every slot: the signal to a slot's destination, the
  wait on the barrier, the loads and stores of slots and blocks, the copy of a slot, and the waits on its departure and its
  arrival.
-/
module

public import proofs.«01_k».proof.Proof.Protocol

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel makes no recursive call: it needs no variants. -/
abbrev 𝒱₀ : Variants := Variants.none

/-- Device `c` runs `p` to a state satisfying `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def debt (c : Dev nD) (O : CellTallies nD τ sig Unit) : sProp 𝕄 := iprop(∃ W, owes (c : Thread nD τ) O W)

/-- Slot `k` of the send buffer, filled with what its destination is to receive. -/
def filled (c : Dev nD) (k : Fin 3) : sProp 𝕄 :=
  iprop(∃ f, ⌜(slotOf sM k).view.read (Elt F) f = blockOf (xAt m ρ c) (dest k c)⌝ ∗ slotPts (F := F) sM c k f)

variable (K : Dev nD × CK → ℕ)
variable {α : Type}

omit [FloatOps F] in
/-- A copy into a slot of the landing buffer completes with a slot's units. -/
theorem credit_recv (k : Fin 3) : (slotOf rM k).view.dmaCredit = N := rfl
omit [FloatOps F] in
/-- A slot of the send buffer counts the same units. -/
theorem credit_send (k : Fin 3) : (slotOf sM k).view.dmaCredit = N := rfl

/-- The signal of slot `k`: device `c` pays its unit to the barrier of the slot's destination and hands over the slot of its
    own landing buffer in which that destination's copy arrives. -/
theorem wp_signal_slot (c n : Dev nD) (k : Fin 3) (hn : n = dest k c) (O : CellTallies nD τ sig Unit)
    {p : PUnit → Prog (TpuEff nD τ sig (Elt F) Λ₀ .tc) α} {Q : α → sProp 𝕄} :
    iprop(facts m ρ K c k ∗ facts m ρ K c (back k) ∗ debt c (O + dueBar c k) ∗ dutyTok EP (barC (dest k c)) 0 (back k)
        ∗ ∃ f, slotPts (F := F) rM c (back k) f)
      ⊢ iprop((debt c O -∗ runs c (p ⟨⟩) Q) -∗ runs c (.op (.semSignal (n, .tc) barS (1#32 : BitVec 32).toInt) p) Q) := by
  subst hn
  unfold facts debt
  iintro ⟨⟨-, -, #HI, -, #HR, -, -⟩, ⟨-, -, -, -, -, -, #HV⟩, ⟨%W, HO⟩, Htok, ⟨%f, Hs⟩⟩ Hk
  iapply (Rounds.wp_signal 𝒱₀ EP (sched m ρ) (c : Thread nD τ) none (dst := (dest k c : Thread nD τ)) (κ := K (dest k c, kBar))
      (d := back k) (by rw [duties_bar]; exact Finset.mem_univ _) ((amount_bar m ρ (dest k c) (back k)).trans (by decide)) () O rfl)
    $$ [HO Htok Hs]
  · isplitr; · iexact HI
    isplitl [HO]; · iexact HO
    isplitl [Htok]; · iexact Htok
    isplitl [Hs]
    · rw [payload_bar]; unfold barPay; rw [dest_back]
      isplitl [Hs]; · iexists f; iexact Hs
      iexact HV
    · iexact HR
  iintro HO
  iapply Hk
  iexists W; iexact HO

/-- The wait for the barrier's three units: the three landing slots device `c` sends to are its own to write. -/
theorem wp_wait_bar (c : Dev nD) {p : PUnit → Prog (TpuEff nD τ sig (Elt F) Λ₀ .tc) α} {Q : α → sProp 𝕄} :
    iprop(cellInv EP (sched m ρ) (K (c, kBar)) (barC c) ∗ levAts lvls lvl ∗ cred (tallyAt (barC c) () 3) ∗ debt c (oweRecv c)
        ∗ atPos EP (barC c) 0 ∅ 0)
      ⊢ iprop(((debt c (oweRecv c) ∗ atPos EP (barC c) 1 ∅ 0 ∗ barPay c 0 ∗ barPay c 1 ∗ barPay c 2) -∗ runs c (p ⟨⟩) Q)
          -∗ runs c (.op (.semWait barS (3#32 : BitVec 32).toInt) p) Q) := by
  unfold debt
  iintro ⟨#HI, #Hlev, Hc, ⟨%W, HO⟩, Hat⟩ Hk
  iapply (Rounds.wp_wait_rest_token 𝒱₀ EP (sched m ρ) (c : Thread nD τ) none (κ := K (c, kBar))
      (wpE_semWait_eq 𝒱₀ (c : Thread nD τ) none Set.univ) (Set.mem_univ _) () (O := oweRecv c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A load of a column block of `x`. -/
theorem wp_load_x (c d : Dev nD) {off : Fin 3 → Nat} {inb : ∀ a, off a + S1x256x256.size a ≤ S1x256x1024.size a}
    (h : off = ![0, 0, 256 * d.val]) {hl} {p : Vec F S1x256x256 .bf16 → Prog (TpuEff nD τ sig (Elt F) Λ₀ .tc) α} {Q : α → sProp 𝕄} :
    iprop(((c : Thread nD τ).loc cc0_stg0_0) ↦{fullShare} xAt m ρ c)
      ⊢ iprop((iprop(((c : Thread nD τ).loc cc0_stg0_0) ↦{fullShare} xAt m ρ c) -∗ runs c (p (chunk (xAt m ρ c) d)) Q)
          -∗ runs c (.op (.load xM (Rect.unit (s := S1x256x1024) off S1x256x256.size inb).toLoadRect hl) p) Q) := by
  iintro Hx Hk
  iapply (wp_load 𝒱₀ (c : Thread nD τ) none Set.univ (m := xM) (Finset.subset_univ _)) $$ Hx; iintro Hx
  rw [load_chunk _ d _ h]
  iapply Hk; iexact Hx

omit [FloatOps F] in
/-- The elements a load or store of slot `k` touches are the slot's. -/
theorem slot_access (M : Memref sig .tc .vmem S3x256x256 .bf16) (k : Fin 3) :
    (M.access (slotR k)).setOn Finset.univ ⊆ slotSet M k := by
  unfold slotSet; rw [set_slotOf]; exact View.setOn_subset_set _ _

omit [FloatOps F] in
/-- The elements a load of slot `k` reads are the slot's. -/
theorem slot_load (M : Memref sig .tc .vmem S3x256x256 .bf16) (k : Fin 3) :
    M.view.setOn (slotR k).toLoadRect.set ⊆ slotSet M k := by
  unfold slotSet; rw [set_slotOf, View.set_slice]; exact Finset.Subset.refl _

/-- Filling slot `k`: the load of its old contents, then the store of the block meant for its destination. -/
theorem wp_fill_slot (c : Dev nD) (k : Fin 3) (w : Vec F S1x256x256 .bf16) (hw : w = chunk (xAt m ρ c) (dest k c)) {hl hx hm}
    {p : PUnit → Prog (TpuEff nD τ sig (Elt F) Λ₀ .tc) α} {Q : α → sProp 𝕄} :
    iprop(∃ f, slotPts (F := F) sM c k f)
      ⊢ iprop((filled m ρ c k -∗ runs c (p ⟨⟩) Q)
          -∗ runs c (.op (.load sM (slotR k).toLoadRect hl) fun _ => .op (.store sM (slotR k) w Finset.univ hx hm) p) Q) := by
  unfold filled slotPts
  iintro ⟨%f, Hs⟩ Hk
  iapply (wp_load 𝒱₀ (c : Thread nD τ) none Set.univ (m := sM) (slot_load sM k)) $$ Hs; iintro Hs
  iapply (wp_store 𝒱₀ (c : Thread nD τ) none Set.univ (m := sM) (r := slotR k) (Mk := Finset.univ) (slot_access sM k)) $$ Hs; iintro Hs
  iapply Hk
  iexists _
  isplitr
  swap
  · iexact Hs
  · ipureintro
    rw [read_stored sM k f w, hw]; rfl

/-- The copy of slot `k` to the device it is meant for: what is owed to the arrival there is paid. -/
theorem wp_send_slot (c n : Dev nD) (k : Fin 3) (hn : n = dest k c) (O : CellTallies nD τ sig Unit)
    {hsc : (slotOf rM k : Memref sig (Dev.tc n : Thread nD τ).2.kind .vmem S256x256 .bf16).view.ref.isScScratch = false}
    {hsrc : (slotOf sM k).view.WordExact} {hdst : (slotOf rM k).view.WordExact}
    {hsem : DmaTarget.Typed .vmem (.dma (recvS k)) (.remote (Dev.tc n : Thread nD τ) (slotOf rM k) (.dma (sendS k)) hsc)}
    {p : PUnit → Prog (TpuEff nD τ sig (Elt F) Λ₀ .tc) α} {Q : α → sProp 𝕄} :
    iprop(facts m ρ K c k ∗ filled m ρ c k ∗ barPay c k ∗ debt c (O + dueRecv c k) ∗ dutyTok EP (sendC c k) 0 0
        ∗ dutyTok EP (recvC (dest k c) k) 0 0)
      ⊢ iprop(((cred (tallyAt (sendC c k) () N) ∗ debt c O) -∗ runs c (p ⟨⟩) Q)
          -∗ runs c (.op (.enqueueDma (slotOf sM k) (.remote (Dev.tc n : Thread nD τ) (slotOf rM k) (.dma (sendS k)) hsc)
              (.dma (recvS k)) hsrc hdst hsem) p) Q) := by
  subst hn
  unfold facts filled barPay debt slotPts
  iintro ⟨⟨#HIs, -, -, #HIr, -, #HRs, -⟩, ⟨%fs, %hfs, Hs⟩, ⟨⟨%fd, Hd⟩, #HRr⟩, ⟨%W, HO⟩, Hts, Htr⟩ Hk
  iapply (Rounds.wp_send_pointsTo 𝒱₀ EP (sched m ρ) (c : Thread nD τ) none (κ₁ := K (c, kSend k)) (κ₂ := K (dest k c, kRecv k))
      (r₁ := 0) (r₂ := 0) (d₁ := 0) (d₂ := 0) (fs := fs) (fd := fd)
      (by rw [duties_send]; exact Finset.mem_singleton_self _) (by rw [duties_recv]; exact Finset.mem_singleton_self _)
      () () N rfl (amount_send m ρ c k 0) (amount_recv m ρ (dest k c) k 0) O rfl (W := W)
      (by rw [payload_send]; unfold sendPay slotPts; iintro H; iexists fs; iexact H)
      (by
        rw [payload_recv]; unfold recvPay slotPts
        iintro H
        iexists _
        isplitr
        swap
        · iexact H
        · ipureintro
          rw [orig_dest]
          exact (View.read_write_univ _ _).trans hfs)) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [Hc]; · iexact Hc
  iexists W; iexact HO

/-- The wait for slot `k`'s departure, with nothing owed: the slot is back, and the cell closes at zero. -/
theorem wp_wait_send (c : Dev nD) (k : Fin 3) {sp : Space} {s : Shape} {e : EltTy} {src : Memref sig .tc sp s e}
    {hsrc : src.view.WordExact} {hdst : (slotOf sM k).view.WordExact} {p : PUnit → Prog (TpuEff nD τ sig (Elt F) Λ₀ .tc) α} {Q : α → sProp 𝕄} :
    iprop(facts m ρ K c k ∗ cred (tallyAt (sendC c k) () N) ∗ debt c 0 ∗ atPos EP (sendC c k) 0 ∅ 0)
      ⊢ iprop(((debt c 0 ∗ semVal (sendC c k) 0 ∗ ∃ f, slotPts (F := F) sM c k f) -∗ runs c (p ⟨⟩) Q)
          -∗ runs c (.op (.waitDma2 (sendS k) src (slotOf sM k) hsrc hdst) p) Q) := by
  unfold facts debt
  iintro ⟨⟨#HI, -, -, -, -, -, -⟩, Hc, ⟨%W, HO⟩, Hat⟩ Hk
  iapply (Rounds.wp_wait_rest_token 𝒱₀ EP (sched m ρ) (c : Thread nD τ) none (κ := K (c, kSend k))
      (wpE_waitDma2_eq 𝒱₀ (c : Thread nD τ) none Set.univ) (Set.mem_univ _) () (O := 0) (W := W) (R := 0) (m := 0) (T := ∅)
      (by rw [Nat.zero_add, expect_send, credit_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  unfold sendPay
  imod (Rounds.cell_close EP (sched m ρ) (Set.mem_univ (K (c, kSend k))) (fun h => h) (R := 0 + 1) (duties_later m ρ (sendC c k))) $$ [Hat] with Hz
  · isplitr; · iexact HI
    iexact Hat
  iapply Hk
  isplitl [HO]; · iexists _; iexact HO
  isplitl [Hz]; · iexact Hz
  iexact Hp

/-- The wait for slot `k`'s arrival, with nothing owed: the slot holds what was sent to it, and the cell closes at zero. -/
theorem wp_wait_recv (c : Dev nD) (k : Fin 3) {sp : Space} {s : Shape} {e : EltTy} {src : Memref sig .tc sp s e}
    {hsrc : src.view.WordExact} {hdst : (slotOf rM k).view.WordExact} {p : PUnit → Prog (TpuEff nD τ sig (Elt F) Λ₀ .tc) α} {Q : α → sProp 𝕄} :
    iprop(facts m ρ K c k ∗ cred (tallyAt (recvC c k) () N) ∗ debt c 0 ∗ atPos EP (recvC c k) 0 ∅ 0)
      ⊢ iprop(((debt c 0 ∗ semVal (recvC c k) 0 ∗ recvPay m ρ c k) -∗ runs c (p ⟨⟩) Q)
          -∗ runs c (.op (.waitDma2 (recvS k) src (slotOf rM k) hsrc hdst) p) Q) := by
  unfold facts debt
  iintro ⟨⟨-, #HI, -, -, -, -, -⟩, Hc, ⟨%W, HO⟩, Hat⟩ Hk
  iapply (Rounds.wp_wait_rest_token 𝒱₀ EP (sched m ρ) (c : Thread nD τ) none (κ := K (c, kRecv k))
      (wpE_waitDma2_eq 𝒱₀ (c : Thread nD τ) none Set.univ) (Set.mem_univ _) () (O := 0) (W := W) (R := 0) (m := 0) (T := ∅)
      (by rw [Nat.zero_add, expect_recv, credit_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c k)) $$ Hpay
  imod (Rounds.cell_close EP (sched m ρ) (Set.mem_univ (K (c, kRecv k))) (fun h => h) (R := 0 + 1) (duties_later m ρ (recvC c k))) $$ [Hat] with Hz
  · isplitr; · iexact HI
    iexact Hat
  iapply Hk
  isplitl [HO]; · iexists _; iexact HO
  isplitl [Hz]; · iexact Hz
  iexact Hp

/-- A load of an arrived slot reads the sender's column block for this device. -/
theorem wp_load_slot (c : Dev nD) (k : Fin 3) {hl} {p : Vec F S1x256x256 .bf16 → Prog (TpuEff nD τ sig (Elt F) Λ₀ .tc) α} {Q : α → sProp 𝕄} :
    recvPay m ρ c k
      ⊢ iprop(((∃ f, slotPts (F := F) rM c k f) -∗ runs c (p (chunk (xAt m ρ (orig k c)) c)) Q)
          -∗ runs c (.op (.load rM (slotR k).toLoadRect hl) p) Q) := by
  unfold recvPay slotPts
  iintro ⟨%f, %hf, Hs⟩ Hk
  iapply (wp_load 𝒱₀ (c : Thread nD τ) none Set.univ (m := rM) (slot_load rM k)) $$ Hs; iintro Hs
  have hv : (rM : Memref sig .tc .vmem S3x256x256 .bf16).view.readAt (Elt F) (slotR k).toLoadRect f = chunk (xAt m ρ (orig k c)) c := by
    have h := congrArg (fun v => shapeCast S1x256x256 v shapeCasts_S256x256_S1x256x256) ((load_slot rM k f).trans hf)
    exact ((shapeCast_shapeCast _ _ _).symm.trans h).trans (shapeCast_shapeCast _ _ _)
  rw [hv]
  iapply Hk
  iexists f; iexact Hs

end Cert.ScatterProof

end
-- ==== Proof.Body.lean ====
/-
  The kernel's body on one device, effect by effect in program order, from what the device holds at launch to its result in
  the output buffer, both scratch buffers whole and every cell closed at zero.
-/
module

public import proofs.«01_k».proof.Proof.Steps

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole staging buffer of device `c`, holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Owning a whole buffer at what it reads is holding it at those contents. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns staged; simp only [Memref.view_whole, View.read_whole, View.set_whole]

/-- The input window is fetched at the one point. -/
theorem fetch_x (t : Fin cfg0.N) : (cfg0.win (0 : Fin 2)).fetch t = true := by rw [fin_N0 t]; rfl

omit [FloatOps F] in
/-- The output buffer stored whole holds what was stored. -/
theorem write_out (f w : (cc0_stg1_0 : Ref sig .tc).ty.Contents (Elt F)) (inb) :
    ((oM : Memref sig .tc .vmem S256x256 .bf16).access (Rect.unit (s := S256x256) ![0, 0] S256x256.size inb) : View sig .tc _ _ _).write (Elt F) f w Finset.univ = w :=
  Memref.write_access_unit_zero_univ (Elt F) cc0_stg1_0 (funext fun a => by fin_cases a <;> rfl) _ f w

variable (K : Dev nD × CK → ℕ)

/-- What the body starts from, the names of the cells' invariants fixed. -/
def bodyPre (c : Dev nD) : sProp 𝕄 :=
  iprop((ghost m ρ K c ∗ creds c ∗ levAts lvls lvl) ∗ (slots (F := F) sM c ∗ slots (F := F) rM c)
    ∗ debt c (owe₀ c) ∗ staged c cc0_stg0_0 (xAt m ρ c) ∗ ∃ X, staged c cc0_stg1_0 X)

/-- What it ends with. -/
def bodyPost (c : Dev nD) : sProp 𝕄 :=
  iprop(after c ∗ debt c 0 ∗ staged c cc0_stg0_0 (xAt m ρ c) ∗ staged c cc0_stg1_0 (outAt m ρ c))

set_option maxHeartbeats 1600000 in
/-- The body runs from the one to the other. -/
theorem body_runs (c : Dev nD) (Q : PUnit → sProp 𝕄) :
    iprop(bodyPre m ρ K c ∗ (bodyPost m ρ c -∗ Q ⟨⟩))
      ⊢ runs c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [runs, semSignalWord, semWaitWord, Prog.lift, Prog.bind_op, Prog.bind_ret, Prog.pure_eq_ret, wp_deviceId]
  unfold bodyPre ghost tickets creds slots staged
  iintro ⟨⟨⟨⟨⟨#HIb, #Hf0, #Hf1, #Hf2⟩, Hab, ⟨Has0, Har0, Htb0, Hts0, Htr0⟩, ⟨Has1, Har1, Htb1, Hts1, Htr1⟩, ⟨Has2, Har2, Htb2, Hts2, Htr2⟩⟩,
      ⟨Hcb, Hcr0, Hcr1, Hcr2⟩, #Hlev⟩, ⟨⟨Hs0, Hs1, Hs2⟩, ⟨Hr0, Hr1, Hr2⟩⟩, HO, ⟨%gx, %hgx, Hx⟩, ⟨%X, %go, -, Hout⟩⟩, Hk⟩
  subst hgx
  unfold owe₀
  -- the three signals
  iapply (wp_signal_slot m ρ K c _ 0 (dev1_eq c) (oweRecv c + dueBar c 2 + dueBar c 1)) $$ [HO Htb0 Hr0]
  · isplitr; · iexact Hf0
    isplitr; · iexact Hf0
    isplitl [HO]; · iexact HO
    isplitl [Htb0]; · iexact Htb0
    iexact Hr0
  iintro HO
  iapply (wp_signal_slot m ρ K c _ 1 (dev2_eq c) (oweRecv c + dueBar c 2)) $$ [HO Htb1 Hr2]
  · isplitr; · iexact Hf1
    isplitr; · iexact Hf2
    isplitl [HO]; · iexact HO
    isplitl [Htb1]; · iexact Htb1
    iexact Hr2
  iintro HO
  iapply (wp_signal_slot m ρ K c _ 2 (dev3_eq c) (oweRecv c)) $$ [HO Htb2 Hr1]
  · isplitr; · iexact Hf2
    isplitr; · iexact Hf1
    isplitl [HO]; · iexact HO
    isplitl [Htb2]; · iexact Htb2
    iexact Hr1
  iintro HO
  -- the send buffer filled, slot by slot
  iapply (wp_load_x m ρ c (dest 0 c) (off_slot0 c)) $$ Hx; iintro Hx
  iapply (wp_fill_slot m ρ c 0 _ (pay1_eq _)) $$ Hs0; iintro Hs0
  iapply (wp_load_x m ρ c (dest 1 c) (off_slot1 c)) $$ Hx; iintro Hx
  iapply (wp_fill_slot m ρ c 1 _ (pay2_eq _)) $$ Hs1; iintro Hs1
  iapply (wp_load_x m ρ c (dest 2 c) (off_slot2 c)) $$ Hx; iintro Hx
  iapply (wp_fill_slot m ρ c 2 _ (pay3_eq _)) $$ Hs2; iintro Hs2
  -- the barrier
  iapply (wp_wait_bar m ρ K c) $$ [Hcb HO Hab]
  · isplitr; · iexact HIb
    isplitr; · iexact Hlev
    isplitl [Hcb]; · iexact Hcb
    isplitl [HO]; · iexact HO
    iexact Hab
  iintro ⟨HO, Hab, Hd0, Hd1, Hd2⟩
  unfold oweRecv
  -- the three copies
  iapply (wp_send_slot m ρ K c _ 0 (dev4_eq c) (dueRecv c 2 + dueRecv c 1)) $$ [Hs0 Hd0 HO Hts0 Htr0]
  · isplitr; · iexact Hf0
    isplitl [Hs0]; · iexact Hs0
    isplitl [Hd0]; · iexact Hd0
    isplitl [HO]; · iexact HO
    isplitl [Hts0] <;> iassumption
  iintro ⟨Hcs0, HO⟩
  iapply (wp_send_slot m ρ K c _ 1 (dev5_eq c) (dueRecv c 2)) $$ [Hs1 Hd1 HO Hts1 Htr1]
  · isplitr; · iexact Hf1
    isplitl [Hs1]; · iexact Hs1
    isplitl [Hd1]; · iexact Hd1
    isplitl [HO]; · iexact HO
    isplitl [Hts1] <;> iassumption
  iintro ⟨Hcs1, HO⟩
  iapply (wp_send_slot m ρ K c _ 2 (dev6_eq c) 0) $$ [Hs2 Hd2 HO Hts2 Htr2]
  · isplitr; · iexact Hf2
    isplitl [Hs2]; · iexact Hs2
    isplitl [Hd2]; · iexact Hd2
    isplitl [HO]; · rw [zero_add]; iexact HO
    isplitl [Hts2] <;> iassumption
  iintro ⟨Hcs2, HO⟩
  -- the own block, then the three arrivals
  iapply (wp_load_x m ρ c c (off_own c)) $$ Hx; iintro Hx
  iapply (wp_wait_recv m ρ K c 1) $$ [Hcr1 HO Har1]
  · isplitr; · iexact Hf1
    isplitl [Hcr1]; · iexact Hcr1
    isplitl [HO] <;> iassumption
  iintro ⟨HO, Hzr1, Hr1⟩
  iapply (wp_load_slot m ρ c 1) $$ Hr1; iintro Hr1
  iapply (wp_wait_recv m ρ K c 2) $$ [Hcr2 HO Har2]
  · isplitr; · iexact Hf2
    isplitl [Hcr2]; · iexact Hcr2
    isplitl [HO] <;> iassumption
  iintro ⟨HO, Hzr2, Hr2⟩
  iapply (wp_load_slot m ρ c 2) $$ Hr2; iintro Hr2
  iapply (wp_wait_recv m ρ K c 0) $$ [Hcr0 HO Har0]
  · isplitr; · iexact Hf0
    isplitl [Hcr0]; · iexact Hcr0
    isplitl [HO] <;> iassumption
  iintro ⟨HO, Hzr0, Hr0⟩
  iapply (wp_load_slot m ρ c 0) $$ Hr0; iintro Hr0
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S256x256) ![0, 0] S256x256.size inb_S256x256_S256x256_0_0)
    (Mk := Finset.univ) (Finset.subset_univ _)) $$ Hout; iintro Hout
  -- the three departures
  iapply (wp_wait_send m ρ K c 0) $$ [Hcs0 HO Has0]
  · isplitr; · iexact Hf0
    isplitl [Hcs0]; · iexact Hcs0
    isplitl [HO] <;> iassumption
  iintro ⟨HO, Hzs0, Hs0⟩
  iapply (wp_wait_send m ρ K c 1) $$ [Hcs1 HO Has1]
  · isplitr; · iexact Hf1
    isplitl [Hcs1]; · iexact Hcs1
    isplitl [HO] <;> iassumption
  iintro ⟨HO, Hzs1, Hs1⟩
  iapply (wp_wait_send m ρ K c 2) $$ [Hcs2 HO Has2]
  · isplitr; · iexact Hf2
    isplitl [Hcs2]; · iexact Hcs2
    isplitl [HO] <;> iassumption
  iintro ⟨HO, Hzs2, Hs2⟩
  imod (Rounds.cell_close EP (sched m ρ) (Set.mem_univ (K (c, kBar))) (fun h => h) (R := 1) (duties_later m ρ (barC c))) $$ [Hab] with Hzb
  · isplitr; · iexact HIb
    iexact Hab
  rw [write_out, wp_ret]; imodintro
  iapply Hk
  unfold bodyPost after slots staged
  isplitl [Hs0 Hs1 Hs2 Hr0 Hr1 Hr2 Hzb Hzs0 Hzs1 Hzs2 Hzr0 Hzr1 Hzr2]
  · isplitl [Hs0 Hs1 Hs2 Hr0 Hr1 Hr2]
    · isplitl [Hs0 Hs1 Hs2]
      · isplitl [Hs0]; · iexact Hs0
        isplitl [Hs1]; · iexact Hs1
        iexact Hs2
      · isplitl [Hr0]; · iexact Hr0
        isplitl [Hr1]; · iexact Hr1
        iexact Hr2
    isplitl [Hzb]; · iexact Hzb
    isplitl [Hzs0 Hzs1 Hzs2]
    · isplitl [Hzs0]; · iexact Hzs0
      isplitl [Hzs1] <;> iassumption
    · isplitl [Hzr0]; · iexact Hzr0
      isplitl [Hzr1] <;> iassumption
  isplitl [HO]; · iexact HO
  isplitl [Hx]
  · iexists _; isplitr; · (ipureintro; rfl)
    iexact Hx
  iexists _; isplitr; · (ipureintro; rfl)
  iexact Hout

/-- The one grid point's obligation. -/
theorem body_obligation (c : Dev nD) : BodyObligation (dats (F := F) m ρ 0 c) (defs₀ (F := F)) 𝒱₀ () Set.univ := fun t => by
  rw [fin_N0 t, bigSep_W0, bigSep_W0]
  simp only [owns_staged]
  show iprop(before m ρ c ∗ (dats m ρ 0 c).owesAt () t0_0.castSucc
      ∗ (∃ d, staged c cc0_stg0_0 ((dats m ρ 0 c).before (0 : Fin 2) t0_0 d)) ∗ (∃ d, staged c cc0_stg1_0 ((dats m ρ 0 c).before (1 : Fin 2) t0_0 d)))
    ⊢ runs c (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
        (fun _ => iprop(after c ∗ (dats m ρ 0 c).owesAt () t0_0.succ ∗ staged c cc0_stg0_0 (xAt m ρ c) ∗ staged c cc0_stg1_0 (outAt m ρ c)))
  unfold before entry Dat.owesAt Pipeline.owesWithin
  rw [show (dats m ρ 0 c).owed t0_0.castSucc = owe₀ c from rfl, show (dats m ρ 0 c).owed t0_0.succ = 0 from rfl]
  iintro ⟨⟨⟨⟨%K, Hg⟩, Hc, Hl⟩, Hs, Hr⟩, ⟨%W, -, HO⟩, ⟨%d0, %g0, %hg0, Hx⟩, ⟨%d1, Hout⟩⟩
  have hx : g0 = xAt m ρ c := by rw [hg0]; unfold Dat.before; rw [if_pos (fetch_x t0_0)]; rfl
  iapply (body_runs m ρ K c _)
  unfold bodyPre bodyPost debt
  isplitr []
  · isplitl [Hg Hc Hl]
    · isplitl [Hg]; · iexact Hg
      isplitl [Hc] <;> iassumption
    isplitl [Hs Hr]
    · isplitl [Hs] <;> iassumption
    isplitl [HO]; · iexists W; iexact HO
    isplitl [Hx]
    · iexists g0; isplitr; · (ipureintro; exact hx)
      iexact Hx
    iexists _; iexact Hout
  · iintro ⟨Ha, ⟨%W', HO⟩, Hx, Hout⟩
    isplitl [Ha]; · iexact Ha
    isplitl [HO]
    · iexists W'
      isplitr; · ipureintro; exact fun _ _ => Or.inl trivial
      iexact HO
    isplitl [Hx] <;> iassumption

end Cert.ScatterProof

end
-- ==== Proof.Launch.lean ====
/-
  The launch: the protocol's ghost state minted and dealt to the devices, the launch credits counted, the scratch buffers
  cut into slots and joined again, and the run of the whole mesh.
-/
module

public import proofs.«01_k».proof.Proof.Body
public import Idealize.ShloMosaic.Lib.Ring
public import Idealize.ShloMosaic.Lib.Pipeline.CollectiveSegs

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state minted -/

/-- All cells of the protocol. -/
def allCells : Finset (GSem nD τ sig) := Finset.univ.map ⟨cellAt, cellAt_inj⟩

/-- The duties of slot `k` of a device's cells: the barrier's unit (0), the departure (1), the arrival (2). -/
abbrev dutyAt (x : (Dev nD × Fin 3) × Fin 3) : GSem nD τ sig × ℕ × Fin 3 := match x.2 with
  | 0 => (barC x.1.1, 0, x.1.2)
  | 1 => (sendC x.1.1 x.1.2, 0, 0)
  | 2 => (recvC x.1.1 x.1.2, 0, 0)

/-- Different duties are different. -/
theorem dutyAt_inj : Function.Injective dutyAt := by
  rintro ⟨⟨c, k⟩, j⟩ ⟨⟨c', k'⟩, j'⟩ h
  have hc : c = c' := by
    have := congrArg (fun x : GSem nD τ sig × ℕ × Fin 3 => x.1.1.1) h
    fin_cases j <;> fin_cases j' <;> exact this
  have hs := congrArg (fun x : GSem nD τ sig × ℕ × Fin 3 => (x.1.2, x.2.2)) h
  have hj : (j, k) = (j', k') := by
    revert hs; subst hc; clear h; revert j j' k k'; decide +revert
  obtain ⟨rfl, rfl⟩ := Prod.mk.inj hj
  rw [hc]

/-- All duties of the protocol. -/
def allDuties : Finset (GSem nD τ sig × ℕ × Fin 3) := Finset.univ.map ⟨dutyAt, dutyAt_inj⟩

/-- The ghost state at launch: the staging cells' and the protocol's. -/
def u₀ : UU := (initOf (Pipeline.cells cfgs cellOf_inj) (Pipeline.launchToks cfgs cellOf_inj), initOf allCells allDuties)

/-- The duty tokens of slot `k` of a device's own cells. -/
def minted (x : Dev nD × Fin 3) : sProp 𝕄 :=
  iprop(dutyTok EP (barC x.1) 0 x.2 ∗ dutyTok EP (sendC x.1 x.2) 0 0 ∗ dutyTok EP (recvC x.1 x.2) 0 0)

/-- The duty tokens a device pays slot `k` with. -/
def payable (x : Dev nD × Fin 3) : sProp 𝕄 :=
  iprop(dutyTok EP (barC (dest x.2 x.1)) 0 (back x.2) ∗ dutyTok EP (sendC x.1 x.2) 0 0 ∗ dutyTok EP (recvC (dest x.2 x.1) x.2) 0 0)

/-- A device's share of the minted state. -/
def share₀ (c : Dev nD) : sProp 𝕄 :=
  iprop((bigSep Finset.univ fun k : CK => roundState EP (sched m ρ) (cellAt (c, k)) 0)
    ∗ (bigSep Finset.univ fun k : CK => iprop(atPos EP (cellAt (c, k)) 0 ∅ 0 ∗ reached EP (cellAt (c, k)) 0))
    ∗ bigSep Finset.univ fun k : Fin 3 => minted (c, k))

/-- What the dealing makes of it. -/
def dealt (c : Dev nD) : sProp 𝕄 := iprop(∃ K, ghost m ρ K c)

omit [FloatOps F] in
/-- A conjunction over a device's cells, written out. -/
theorem bigSep_cells (Φ : CK → sProp 𝕄) : bigSep Finset.univ Φ
    = iprop(Φ kBar ∗ Φ (kSend 0) ∗ Φ (kSend 1) ∗ Φ (kSend 2) ∗ Φ (kRecv 0) ∗ Φ (kRecv 1) ∗ Φ (kRecv 2)) :=
  bigSep_univ_eq_bigSepL [kBar, kSend 0, kSend 1, kSend 2, kRecv 0, kRecv 1, kRecv 2] (by decide) (by decide) Φ

omit [FloatOps F] in
/-- The protocol's launch element is every device's share. -/
theorem fund_protocol : BI.own (EP (initOf allCells allDuties)) ⊢ (|==> bigSep Finset.univ (share₀ m ρ) : sProp 𝕄) := by
  have hC (Φ : GSem nD τ sig → sProp 𝕄) : bigSep allCells Φ = bigSep Finset.univ fun c : Dev nD => bigSep Finset.univ fun k : CK => Φ (cellAt (c, k)) := by
    unfold allCells; rw [bigSep_map, bigSep_univ_prod]; rfl
  have hD : bigSep allDuties (fun x => (dutyTok EP x.1 x.2.1 x.2.2 : sProp 𝕄))
      = bigSep Finset.univ fun c : Dev nD => bigSep Finset.univ fun k : Fin 3 => minted (c, k) := by
    unfold allDuties; rw [bigSep_map, bigSep_univ_prod, bigSep_univ_prod]
    exact bigSep_congr fun c _ => bigSep_congr fun k _ => by unfold minted; rw [bigSep_slots]; rfl
  iintro HX
  imod (Rounds.fund EP (sched m ρ) allCells allDuties) $$ HX with ⟨Hst, Hr, Hat, Htok⟩
  imodintro
  ihave Hst' := (Entails.of_eq (hC fun g => roundState EP (sched m ρ) g 0)) $$ Hst
  ihave Hat' := (Entails.of_eq (hC fun g => atPos EP g 0 ∅ 0)) $$ Hat
  ihave Hr' := (Entails.of_eq (hC fun g => reached EP g 0)) $$ Hr
  ihave Htok' := (Entails.of_eq hD) $$ Htok
  unfold share₀; simp only [bigSep_sep']
  isplitl [Hst']; · iexact Hst'
  isplitl [Hat' Hr']
  · isplitl [Hat'] <;> iassumption
  iexact Htok'

/-! ## The semaphores -/

omit [FloatOps F] in
/-- The kernel's own semaphores are the departures and the arrivals; -/
theorem ownSems_eq (c : Dev nD) : (Pipeline.ownSems0 (Ix := Unit) (Name := ℕ) (U := UU) (Lvl := ℕ) (Val := Elt F) (τ := τ) ownSem c : sProp 𝕄)
    = iprop(semVal (sendC c 0) 0 ∗ semVal (sendC c 1) 0 ∗ semVal (sendC c 2) 0 ∗ semVal (recvC c 0) 0 ∗ semVal (recvC c 1) 0 ∗ semVal (recvC c 2) 0) := by
  rw [Pipeline.ownSems0_eq_of_list c ownSem [(false, 0), (false, 1), (false, 2), (true, 0), (true, 1), (true, 2)] (by decide) (by decide)]; rfl

omit [FloatOps F] in
/-- and the barrier is the one semaphore that outlives the kernel. -/
theorem barSem_eq (c : Dev nD) : (unscopedSems0 c : sProp 𝕄) = semVal (barC c) 0 := by
  unfold unscopedSems0; rw [bigSep_eq_bigSepL_of_eq [SemLoc.reg barS] (by decide) (by decide)]; rfl

omit [FloatOps F] in
/-- A device's cells get their invariants. -/
theorem open_cells (c : Dev nD) :
    iprop(Pipeline.ownSems0 (Ix := Unit) (Name := ℕ) (U := UU) (Lvl := ℕ) (Val := Elt F) (τ := τ) ownSem c ∗ unscopedSems0 c ∗ share₀ m ρ c)
      ⊢ |={Set.univ}=> iprop((bigSep Finset.univ fun k : CK => iprop(∃ κ : ℕ, cellInv EP (sched m ρ) κ (cellAt (c, k))))
          ∗ (bigSep Finset.univ fun k : CK => iprop(atPos EP (cellAt (c, k)) 0 ∅ 0 ∗ reached EP (cellAt (c, k)) 0))
          ∗ bigSep Finset.univ fun k : Fin 3 => minted (c, k)) := by
  have hv : iprop(Pipeline.ownSems0 (Ix := Unit) (Name := ℕ) (U := UU) (Lvl := ℕ) (Val := Elt F) (τ := τ) ownSem c ∗ unscopedSems0 c)
      ⊢ (bigSep Finset.univ fun k : CK => semVal (cellAt (c, k)) 0 : sProp 𝕄) := by
    rw [ownSems_eq, barSem_eq, bigSep_cells]
    iintro ⟨H, HB⟩
    isplitl [HB]; · iexact HB
    iexact H
  have hi : iprop((bigSep Finset.univ fun k : CK => semVal (cellAt (c, k)) 0) ∗ bigSep Finset.univ fun k : CK => roundState EP (sched m ρ) (cellAt (c, k)) 0)
      ⊢ (|={Set.univ}=> bigSep Finset.univ fun k => iprop(∃ κ : ℕ, cellInv EP (sched m ρ) κ (cellAt (c, k))) : sProp 𝕄) := by
    rw [← bigSep_sep']
    exact (bigSep_mono fun k _ => (Rounds.body_intro EP (sched m ρ) (cellAt (c, k))).trans inv_alloc).trans (bigSep_fupd _ _)
  unfold share₀
  iintro ⟨Ho, Hu, Hst, Hat, Htok⟩
  ihave Hv := hv $$ [Ho Hu]
  · isplitl [Ho] <;> iassumption
  imod hi $$ [Hv Hst] with Hinv
  · isplitl [Hv] <;> iassumption
  imodintro
  isplitl [Hinv]; · iexact Hinv
  isplitl [Hat] <;> iassumption

/-! ## The dealing -/

/-- Every cell's invariant under its name, and that every cell's round is open. -/
def records (K : Dev nD × CK → ℕ) : sProp 𝕄 :=
  iprop((bigSep Finset.univ fun x : Dev nD × CK => cellInv EP (sched m ρ) (K x) (cellAt x))
    ∗ bigSep Finset.univ fun x : Dev nD × CK => reached EP (cellAt x) 0)

instance records_persistent (K : Dev nD × CK → ℕ) : BI.Persistent (records (F := F) m ρ K) := by unfold records; infer_instance

omit [FloatOps F] in
/-- The records hold every cell's invariant. -/
theorem records_inv (K : Dev nD × CK → ℕ) (x : Dev nD × CK) : records m ρ K ⊢ (cellInv EP (sched m ρ) (K x) (cellAt x) : sProp 𝕄) := by
  unfold records
  have h : (bigSep Finset.univ fun x : Dev nD × CK => (cellInv EP (sched m ρ) (K x) (cellAt x) : sProp 𝕄)) ⊢ cellInv EP (sched m ρ) (K x) (cellAt x) :=
    bigSep_elim (Finset.mem_univ x)
  iintro ⟨H, -⟩
  iapply h; iexact H
omit [FloatOps F] in
/-- The records hold every cell's open round. -/
theorem records_reached (K : Dev nD × CK → ℕ) (x : Dev nD × CK) : records m ρ K ⊢ (reached EP (cellAt x) 0 : sProp 𝕄) := by
  unfold records
  have h : (bigSep Finset.univ fun x : Dev nD × CK => (reached EP (cellAt x) 0 : sProp 𝕄)) ⊢ reached EP (cellAt x) 0 :=
    bigSep_elim (Finset.mem_univ x)
  iintro ⟨-, H⟩
  iapply h; iexact H

omit [FloatOps F] in
/-- The records hold what a device reads about slot `k`. -/
theorem records_facts (K : Dev nD × CK → ℕ) (c : Dev nD) (k : Fin 3) : records m ρ K ⊢ facts m ρ K c k := by
  unfold facts
  iintro #H
  isplitr; · iapply (records_inv m ρ K (c, kSend k)); iexact H
  isplitr; · iapply (records_inv m ρ K (c, kRecv k)); iexact H
  isplitr; · iapply (records_inv m ρ K (dest k c, kBar)); iexact H
  isplitr; · iapply (records_inv m ρ K (dest k c, kRecv k)); iexact H
  isplitr; · iapply (records_reached m ρ K (dest k c, kBar)); iexact H
  isplitr; · iapply (records_reached m ρ K (c, kSend k)); iexact H
  iapply (records_reached m ρ K (c, kRecv k)); iexact H

/-- What a device alone holds: its places in its cells, and the tokens it pays with. -/
def own₀ (c : Dev nD) : sProp 𝕄 :=
  iprop((bigSep Finset.univ fun k : CK => atPos EP (cellAt (c, k)) 0 ∅ 0) ∗ bigSep Finset.univ fun k : Fin 3 => payable (c, k))

omit [FloatOps F] in
/-- The records and what a device alone holds are its ghost state. -/
theorem ghost_intro (K : Dev nD × CK → ℕ) (c : Dev nD) : iprop(records m ρ K ∗ own₀ c) ⊢ dealt m ρ c := by
  unfold own₀ dealt ghost tickets
  rw [bigSep_cells, bigSep_slots]
  unfold payable
  iintro ⟨#HR, ⟨HaB, HaS0, HaS1, HaS2, HaR0, HaR1, HaR2⟩, ⟨Hb0, Hs0, Hr0⟩, ⟨Hb1, Hs1, Hr1⟩, ⟨Hb2, Hs2, Hr2⟩⟩
  iexists K
  isplitr
  · isplitr; · iapply (records_inv m ρ K (c, kBar)); iexact HR
    isplitr; · iapply (records_facts m ρ K c 0); iexact HR
    isplitr; · iapply (records_facts m ρ K c 1); iexact HR
    iapply (records_facts m ρ K c 2); iexact HR
  isplitl [HaB]; · iexact HaB
  isplitl [HaS0 HaR0 Hb0 Hs0 Hr0]
  · isplitl [HaS0]; · iexact HaS0
    isplitl [HaR0]; · iexact HaR0
    isplitl [Hb0]; · iexact Hb0
    isplitl [Hs0]; · iexact Hs0
    iexact Hr0
  isplitl [HaS1 HaR1 Hb1 Hs1 Hr1]
  · isplitl [HaS1]; · iexact HaS1
    isplitl [HaR1]; · iexact HaR1
    isplitl [Hb1]; · iexact Hb1
    isplitl [Hs1]; · iexact Hs1
    iexact Hr1
  isplitl [HaS2]; · iexact HaS2
  isplitl [HaR2]; · iexact HaR2
  isplitl [Hb2]; · iexact Hb2
  isplitl [Hs2]; · iexact Hs2
  iexact Hr2

/-- A device's slot and the slot that comes back from its destination. -/
def there : Dev nD × Fin 3 ≃ Dev nD × Fin 3 where
  toFun x := (dest x.2 x.1, back x.2)
  invFun x := (dest x.2 x.1, back x.2)
  left_inv := by decide
  right_inv := by decide

/-- A device's slot where it arrives. -/
def across : Dev nD × Fin 3 ≃ Dev nD × Fin 3 where
  toFun x := (dest x.2 x.1, x.2)
  invFun x := (orig x.2 x.1, x.2)
  left_inv x := Prod.ext (orig_dest x.2 x.1) rfl
  right_inv x := Prod.ext (dest_orig x.2 x.1) rfl

omit [FloatOps F] in
/-- The tokens dealt to the devices that pay with them. -/
theorem deal_tokens : (bigSep Finset.univ fun c : Dev nD => bigSep Finset.univ fun k : Fin 3 => (minted (c, k) : sProp 𝕄))
    ⊢ bigSep Finset.univ fun c : Dev nD => bigSep Finset.univ fun k : Fin 3 => payable (c, k) := by
  rw [← bigSep_univ_prod (fun x : Dev nD × Fin 3 => (minted x : sProp 𝕄)), ← bigSep_univ_prod (fun x : Dev nD × Fin 3 => (payable x : sProp 𝕄))]
  unfold minted payable
  rw [bigSep_sep', bigSep_sep', bigSep_sep', bigSep_sep',
    bigSep_univ_equiv there (fun x : Dev nD × Fin 3 => (dutyTok EP (barC x.1) 0 x.2 : sProp 𝕄)),
    bigSep_univ_equiv across (fun x : Dev nD × Fin 3 => (dutyTok EP (recvC x.1 x.2) 0 0 : sProp 𝕄))]
  iintro ⟨H1, H2, H3⟩
  isplitl [H1]; · iexact H1
  isplitl [H2]; · iexact H2
  iexact H3

omit [FloatOps F] in
/-- A lasting fact goes to every member of a conjunction. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The opened cells of the whole mesh, dealt out. -/
theorem deal :
    (bigSep Finset.univ fun c : Dev nD => iprop((bigSep Finset.univ fun k : CK => iprop(∃ κ : ℕ, cellInv EP (sched m ρ) κ (cellAt (c, k))))
          ∗ (bigSep Finset.univ fun k : CK => iprop(atPos EP (cellAt (c, k)) 0 ∅ 0 ∗ reached EP (cellAt (c, k)) 0))
          ∗ bigSep Finset.univ fun k : Fin 3 => minted (c, k)) : sProp 𝕄)
      ⊢ bigSep Finset.univ (dealt m ρ) := by
  rw [bigSep_sep', bigSep_sep', ← bigSep_univ_prod (fun x : Dev nD × CK => iprop(∃ κ : ℕ, cellInv EP (sched m ρ) κ (cellAt x))),
    bigSep_congr (s := Finset.univ) (fun (c : Dev nD) _ => bigSep_sep' Finset.univ (fun k : CK => (atPos EP (cellAt (c, k)) 0 ∅ 0 : sProp 𝕄)) (fun k => reached EP (cellAt (c, k)) 0)),
    bigSep_sep', ← bigSep_univ_prod (fun x : Dev nD × CK => (reached EP (cellAt x) 0 : sProp 𝕄))]
  iintro ⟨HI, ⟨Hat, #HR⟩, Htok⟩
  ihave HK := (BI.bigSep_exists_pi Finset.univ (fun (x : Dev nD × CK) (κ : ℕ) => (cellInv EP (sched m ρ) κ (cellAt x) : sProp 𝕄))) $$ HI
  icases HK with ⟨%K, #HI⟩
  ihave Htk := (deal_tokens (F := F)) $$ Htok
  iapply (bigSep_share (R := records m ρ K) fun c _ => ghost_intro m ρ K c)
  isplitr
  · unfold records; isplitl; · iexact HI
    iexact HR
  · unfold own₀
    rw [bigSep_sep']
    isplitl [Hat]; · iexact Hat
    iexact Htk

omit [FloatOps F] in
/-- From the semaphores and the shares of all devices to their ghost states. -/
theorem open_mesh : (bigSep Finset.univ fun c => iprop(Pipeline.ownSems0 (Ix := Unit) (Name := ℕ) (U := UU) (Lvl := ℕ) (Val := Elt F) (τ := τ) ownSem c ∗ unscopedSems0 c ∗ share₀ m ρ c) : sProp 𝕄)
    ⊢ |={Set.univ}=> bigSep Finset.univ (dealt m ρ) :=
  ((bigSep_mono fun c _ => open_cells m ρ c).trans (bigSep_fupd _ _)).trans (BI.fupd_mono (deal m ρ))

/-! ## The launch credits -/

/-- What is due on a cell that is another cell is nothing. -/
theorem due_other {g g' : GSem nD τ sig} (n : ℕ) (h : g' ≠ g) : (tallyAt g () n : CellTallies nD τ sig Unit) g' () = 0 :=
  Nat.eq_zero_of_not_pos fun hp => h (tally_pos hp)

/-- Summed over the devices, slot `k` brings the units `n` to device `c`'s cell `ck` once. -/
theorem sum_due (k : Fin 3) (ck : CK) (n : ℕ) (c : Dev nD) :
    ∑ d : Dev nD, (tallyAt (cellAt (dest k d, ck)) () n : CellTallies nD τ sig Unit) (cellAt (c, ck)) () = n := by
  rw [Finset.sum_eq_single (orig k c)]
  · rw [dest_orig, tallyAt_apply, if_pos ⟨rfl, rfl⟩]
  · intro d _ hd
    refine due_other n fun h => hd ?_
    rw [(Prod.mk.inj (cellAt_inj h)).1, orig_dest]
  · intro h; exact absurd (Finset.mem_univ _) h

/-- On a cell of another kind it brings nothing. -/
theorem sum_due_other (k : Fin 3) (ck ck' : CK) (h : ck' ≠ ck) (n : ℕ) (c : Dev nD) :
    ∑ d : Dev nD, (tallyAt (cellAt (dest k d, ck)) () n : CellTallies nD τ sig Unit) (cellAt (c, ck')) () = 0 :=
  Finset.sum_eq_zero fun d _ => due_other n fun h' => h (Prod.mk.inj (cellAt_inj h')).2

/-- What the mesh owes a cell, summand by summand. -/
theorem sum_owe (g : GSem nD τ sig) : ∑ d : Dev nD, owe₀ d g ()
    = ∑ d, dueRecv d 2 g () + ∑ d, dueRecv d 1 g () + ∑ d, dueRecv d 0 g () + ∑ d, dueBar d 2 g () + ∑ d, dueBar d 1 g () + ∑ d, dueBar d 0 g () := by
  unfold owe₀ oweRecv
  simp only [Pi.add_apply, Finsupp.add_apply, Finset.sum_add_distrib]

/-- The mesh owes each barrier three units. -/
theorem sum_owe_bar (c : Dev nD) : ∑ d : Dev nD, owe₀ d (barC c) () = 3 := by
  have hr (k : Fin 3) : ∑ d : Dev nD, dueRecv d k (barC c) () = 0 := sum_due_other k (kRecv k) kBar (fun h => by cases h) N c
  have hb (k : Fin 3) : ∑ d : Dev nD, dueBar d k (barC c) () = 1 := sum_due k kBar 1 c
  rw [sum_owe, hr, hr, hr, hb, hb, hb]

/-- The mesh owes each arrival a slot's units. -/
theorem sum_owe_recv (c : Dev nD) (k : Fin 3) : ∑ d : Dev nD, owe₀ d (recvC c k) () = N := by
  have hb (k' : Fin 3) : ∑ d : Dev nD, dueBar d k' (recvC c k) () = 0 := sum_due_other k' kBar (kRecv k) (fun h => by cases h) 1 c
  have hs : ∑ d : Dev nD, dueRecv d k (recvC c k) () = N := sum_due k (kRecv k) N c
  have ho (k' : Fin 3) (h : k ≠ k') : ∑ d : Dev nD, dueRecv d k' (recvC c k) () = 0 :=
    sum_due_other k' (kRecv k') (kRecv k) (fun h' => h (Prod.mk.inj (Option.some.inj h')).2) N c
  rw [sum_owe, hb, hb, hb]
  match k, hs, ho with
  | 0, hs, ho => rw [hs, ho 1 (by decide), ho 2 (by decide)]; omega
  | 1, hs, ho => rw [hs, ho 0 (by decide), ho 2 (by decide)]; omega
  | 2, hs, ho => rw [hs, ho 0 (by decide), ho 1 (by decide)]; omega

/-- A cell the mesh owes `n` units has `n` units of launch credit. -/
theorem credit_of_sum (g : GSem nD τ sig) (n : ℕ) (h : ∑ d : Dev nD, owe₀ d g () = n) :
    tallyOn g (launchCredit (Pipeline.owing owe₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- A device's launch credit holds its barrier's three units and its three arrivals. -/
theorem creds_intro (c : Dev nD) : (Pipeline.launchCred owe₀ c : sProp 𝕄) ⊢ creds c := by
  have h : (Pipeline.launchCred owe₀ c : sProp 𝕄)
      ⊢ bigSep Finset.univ fun k : CK => cred (tallyOn (cellAt (c, k)) (launchCredit (Pipeline.owing owe₀) 0 (cellAt (c, k)))) := by
    unfold Pipeline.launchCred
    refine (bigSep_subset (Finset.subset_univ (Finset.univ.map ⟨semAt, semAt_inj⟩))).trans ?_
    rw [bigSep_map]
    exact BI.Entails.refl _
  rw [bigSep_cells] at h
  unfold creds
  rw [← credit_of_sum _ _ (sum_owe_bar c), ← credit_of_sum _ _ (sum_owe_recv c 0),
    ← credit_of_sum _ _ (sum_owe_recv c 1), ← credit_of_sum _ _ (sum_owe_recv c 2)]
  iintro HC
  ihave HC' := h $$ HC
  icases HC' with ⟨HB, -, -, -, H0, H1, H2⟩
  isplitl [HB]; · iexact HB
  isplitl [H0]; · iexact H0
  isplitl [H1]; · iexact H1
  iexact H2

/-! ## The kernel's start and end -/

omit [FloatOps F] in
/-- What the launch leaves a device besides its buffers. -/
theorem entry_intro (c : Dev nD) :
    iprop(Pipeline.unscopedRestP Pipeline.Prefetch.none cfg0.spec c (fun b => m ((c : Thread nD τ).loc b)) ∗ levAts lvls lvl
        ∗ Pipeline.launchCred owe₀ c ∗ prngReg c (ρ c) ∗ dealt m ρ c)
      ⊢ |={Set.univ}=> iprop(entry m ρ c ∗ emp) := by
  iintro ⟨-, Hl, Hc, -, Hg⟩
  ihave Hc' := (creds_intro (F := F) c) $$ Hc
  imodintro
  unfold entry dealt
  isplitl
  · isplitl [Hg]; · iexact Hg
    isplitl [Hc'] <;> iassumption
  · iempintro

omit [FloatOps F] in
/-- The send buffer whole is its three slots; -/
theorem cut_send (c : Dev nD) (f : Buf (Elt F) ((c : Thread nD τ).loc cc0_scratch0)) :
    (((c : Thread nD τ).loc cc0_scratch0) ↦{fullShare} f : sProp 𝕄) ⊢ slots (F := F) sM c := by
  rw [Ring.pointsTo_blocks (ℓ := (c : Thread nD τ).loc cc0_scratch0) (slotSet sM) (slots_disjoint sM) (slots_cover sM (View.set_whole _)) f, bigSep_slots]
  unfold slots slotPts
  iintro ⟨H0, H1, H2⟩
  isplitl [H0]; · iexists f; iexact H0
  isplitl [H1]; · iexists f; iexact H1
  iexists f; iexact H2

omit [FloatOps F] in
/-- and so is the landing buffer. -/
theorem cut_recv (c : Dev nD) (f : Buf (Elt F) ((c : Thread nD τ).loc cc0_scratch1)) :
    (((c : Thread nD τ).loc cc0_scratch1) ↦{fullShare} f : sProp 𝕄) ⊢ slots (F := F) rM c := by
  rw [Ring.pointsTo_blocks (ℓ := (c : Thread nD τ).loc cc0_scratch1) (slotSet rM) (slots_disjoint rM) (slots_cover rM (View.set_whole _)) f, bigSep_slots]
  unfold slots slotPts
  iintro ⟨H0, H1, H2⟩
  isplitl [H0]; · iexists f; iexact H0
  isplitl [H1]; · iexists f; iexact H1
  iexists f; iexact H2

/-- The three slots of the send buffer join to the whole; -/
theorem join_send (c : Dev nD) : slots (F := F) sM c
    ⊢ (iprop(∃ f : Buf (Elt F) ((c : Thread nD τ).loc cc0_scratch0), ((c : Thread nD τ).loc cc0_scratch0) ↦{fullShare} f) : sProp 𝕄) := by
  unfold slots slotPts
  iintro ⟨⟨%f, H0⟩, H1, H2⟩
  iapply (Ring.pointsTo_blocks_join_exists (ℓ := (c : Thread nD τ).loc cc0_scratch0) (slotSet sM) (slots_disjoint sM) (slots_cover sM (View.set_whole _)) f)
  rw [bigSep_slots]
  isplitl [H0]; · iexists f; iexact H0
  isplitl [H1]; · iexact H1
  iexact H2

/-- and those of the landing buffer. -/
theorem join_recv (c : Dev nD) : slots (F := F) rM c
    ⊢ (iprop(∃ f : Buf (Elt F) ((c : Thread nD τ).loc cc0_scratch1), ((c : Thread nD τ).loc cc0_scratch1) ↦{fullShare} f) : sProp 𝕄) := by
  unfold slots slotPts
  iintro ⟨⟨%f, H0⟩, H1, H2⟩
  iapply (Ring.pointsTo_blocks_join_exists (ℓ := (c : Thread nD τ).loc cc0_scratch1) (slotSet rM) (slots_disjoint rM) (slots_cover rM (View.set_whole _)) f)
  rw [bigSep_slots]
  isplitl [H0]; · iexists f; iexact H0
  isplitl [H1]; · iexact H1
  iexact H2

/-- The kernel starts from the entry state and its scratch buffers in slots. -/
theorem start_intro (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨He, -, ⟨%f, Hs⟩, ⟨%g, Hr⟩⟩
  isplitl [He]; · iexact He
  isplitl [Hs]; · iapply (cut_send c f); iexact Hs
  iapply (cut_recv c g); iexact Hr

/-- The kernel ends with its semaphores at zero and its scratch buffers whole. -/
theorem end_elim (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after c from rfl, scopedRest0_eq, ownSems_eq, barSem_eq]
  unfold after
  iintro ⟨⟨Hs, Hr⟩, HB, ⟨S0, S1, S2⟩, R0, R1, R2⟩
  isplitl [HB]; · iexact HB
  isplitl [S0 S1 S2 R0 R1 R2]
  · isplitl [S0]; · iexact S0
    isplitl [S1]; · iexact S1
    isplitl [S2]; · iexact S2
    isplitl [R0]; · iexact R0
    isplitl [R1]; · iexact R1
    iexact R2
  isplitl [Hs]; · iapply (join_send c); iexact Hs
  iapply (join_recv c); iexact Hr

/-- A staging copy's semaphore is none of the protocol's. -/
theorem role_stage (s : SemLoc sig) (h : ∀ k, semAt k ≠ s) : role s = none := by
  unfold role; rw [dif_neg fun ⟨k, hk⟩ => h k hk]

/-- The staging copies may be waited for. -/
theorem stage_waits (c : Dev nD) : (levAts lvls lvl : sProp 𝕄) ⊢ Pipeline.cellsWaits cfgs (dats m ρ) () 0 c :=
  Pipeline.cellsWaits_intro cfgs (dats m ρ) () 0 c fun w s t =>
    mayWait_stage c _ (role_stage _ (by fin_cases w <;> fin_cases s <;> decide)) _ (by
      rcases t with ⟨_ | _, ht⟩
      · exact Or.inl rfl
      · exact Or.inr rfl)

/-- A window's array is held with the full share. -/
theorem share_full (c : Dev nD) (w : Fin cfg0.W) : (dats m ρ 0 c).share w = fullShare := by unfold Dat.share; split <;> rfl

/-! ## The run -/

/-- An array's contents after the run. -/
def finalA (c : Dev nD) (w : Fin cfg0.W) : Buf (Elt F) ((cfg0.win w).arr.view.loc (c : Thread nD τ)) := (dats m ρ 0 c).arrAt w cfg0.N

/-- Every array holds its final contents. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, the four kernels run to an end in every schedule: each device's arrays hold
    their final contents, and every counter is at zero again. -/
theorem run_main : θ_run defs (onTc (τ := τ) (main (F := F))) (start₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EStage defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := owe₀) (howed₀ := fun _ => rfl) (howedN := fun _ => rfl)
    (L := lvls) (lv := lvl) (hL := lvls_of_ne) (hwaits := stage_waits m ρ)
    (G := share₀ m ρ) (G' := dealt m ρ) (u₀ := u₀)
    (hu₀ := by
      unfold u₀
      iintro Hu
      ihave H := (ownU_pair _ _) $$ Hu
      icases H with ⟨HP, HX⟩
      imod (fund_protocol m ρ) $$ HX with HG
      imodintro
      isplitl [HP] <;> iassumption)
    (hglob := open_mesh m ρ)
    (hA := fun _ _ => rfl) (hpf := fun _ k => k.elim0)
    (X := entry m ρ) (Y := fun c => unscopedSems0 c) (Z := fun _ => iprop(emp))
    (hX := entry_intro m ρ) (hin := start_intro m ρ) (hout := end_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` ends as it began. -/
theorem finalA_x (c : Dev nD) : finalA m ρ c (0 : Fin 2) = m ((c : Thread nD τ).loc main_arg0) :=
  (dats (F := F) m ρ 0 c).arrAt_in (0 : Fin 2) rfl _

end Cert.ScatterProof

end
-- ==== Proof.Value.lean ====
/-
  What the run leaves: each device's result is the sum, over the four devices, of its column block of their `x`, which is its
  block of the sum of the whole array along the device axis.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.PureOps.Ideal.Laws

@[expose] public section

noncomputable section

namespace Cert.ScatterProof

open Cert.KernelIdeal Cert.KernelIdeal.Gen
open Idealize.ShloMosaic Idealize.ShloMosaic.TcCoe

/-- The shape of the whole `x`: the four devices' blocks one after another. -/
abbrev SX : Shape := ⟨3, ![4, 256, 1024]⟩
/-- The shape of the whole result: the four devices' column blocks side by side. -/
abbrev SO : Shape := ⟨2, ![256, 1024]⟩

section Reads

variable {F : FTy → Type} [FloatOps F]
variable (m : (ℓ : Loc nD τ sig) → Buf (Elt F) ℓ) (ρ : Dev nD → PrngReg)

/-- The staged `x` is all of the device's `x`. -/
theorem xAt_eq (c : Dev nD) : xAt m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result buffer, read back through its one block, holds what the body left in the staged result. -/
theorem finalA_block (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The result buffer ends holding what the body left in the staged result. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans (finalA_block m ρ c)

/-- Where entry `i` of the part device `d` holds of device `e`'s column block is in the whole `x`. -/
def spot (d e : Dev nD) (i : S256x256.Idx) : SX.Idx := fun a =>
  ⟨(![d.val, (i 0).val, 256 * e.val + (i 1).val] : Fin 3 → ℕ) a, by
    have h0 : (i 0).val < 256 := (i 0).isLt
    have h1 : (i 1).val < 256 := (i 1).isLt
    have hd : d.val < 4 := d.isLt
    have he : e.val < 4 := e.isLt
    fin_cases a
    · exact hd
    · exact h0
    · show 256 * e.val + (i 1).val < 1024
      omega⟩

/-- Column block `e` of device `d`'s `x`, entry by entry, in terms of the whole `x`. -/
theorem chunk_at (x : SX.Idx → Elt F .bf16) (d e : Dev nD)
    (hx : m ((d : Thread nD τ).loc main_arg0) = Layout.block ⟨3, ![1, 256, 1024]⟩ SX 0 4 d x) (i : S256x256.Idx) :
    shapeCast S256x256 (chunk (xAt m ρ d) e) shapeCasts_S1x256x256_S256x256 i = x (spot d e i) := by
  refine (shapeCast_dropUnit_apply ![256, 256] _ _ i).trans ?_
  rw [xAt_eq, hx]
  unfold chunk
  refine congrArg x (funext fun a => Fin.ext ?_)
  fin_cases a
  · show d.val * 1 + (0 + 1 * 0) = d.val
    omega
  · show 0 + 1 * (i 0).val = (i 0).val
    omega
  · show 256 * e.val + 1 * (i 1).val = 256 * e.val + (i 1).val
    omega

end Reads

/-- The four devices are a device and the three it receives from. -/
theorem sum_mesh {M : Type} [AddCommMonoid M] (f : Dev nD → M) (c : Dev nD) :
    f c + f (orig 1 c) + f (orig 2 c) + f (orig 0 c) = ∑ d : Fin 4, f d := by
  have h : ∀ c : Fin 4, ∑ d : Fin 4, f d = ∑ d : Fin 4, f (c + d) := fun c => (Equiv.sum_comp (Equiv.addLeft c) f).symm
  rw [h c, Fin.sum_univ_four, show orig 1 c = c + 3 by revert c; decide, show orig 2 c = c + 1 by revert c; decide,
    show orig 0 c = c + 2 by revert c; decide, show c + 0 = c by revert c; decide]
  ac_rfl

/-- The sum of the whole `x` along the device axis, as the reference computes it. -/
abbrev total (x : SX.Idx → Elt Ideal .bf16) : SO.Idx → Elt Ideal .bf16 :=
  truncf (F := Ideal) .bf16 (Host.reduceAdd (extf (F := Ideal) .f32 x Cert.ReferenceIdeal.Facts₀.bitsLt_bf16_f32)
    (constant (F := Ideal) Cert.ReferenceIdeal.S_ .f32 0x00000000#32) Cert.ReferenceIdeal.Facts₀.reducesTo_S4x256x1024_S256x1024_d0
    Cert.ReferenceIdeal.Facts₀.h_S_) Cert.ReferenceIdeal.Facts₀.bitsLt_bf16_f32

/-- The reference's sum at the place of entry `i` of device `c`'s block is the sum over the devices of that entry. -/
theorem total_at (x : SX.Idx → Elt Ideal .bf16) (c : Dev nD) (i : S256x256.Idx) :
    Layout.block ⟨2, ![256, 256]⟩ SO 1 4 c (total x) (by decide) i = ∑ d : Fin 4, (x (spot d c i) : EReal) := by
  have hr : Shape.Reduces SX [0] SO := by decide
  have ht : Layout.Tiles ⟨2, ![256, 256]⟩ SO 1 4 := by decide
  show Ideal.hostReduceAdd Cert.ReferenceIdeal.Facts₀.reducesTo_S4x256x1024_S256x1024_d0 (x : SX.Idx → EReal)
    (Ideal.ofBits .f32 0x00000000#32) (ht.idx c i) = _
  refine (Ideal.hostReduceAdd_single _ hr _ _ _).trans ?_
  refine (congrArg (· + _) Ideal.ofBits_zero_f32).trans ((zero_add _).trans ?_)
  refine Finset.sum_congr rfl fun d _ => ?_
  refine congrArg x (funext fun a => Fin.ext ?_)
  fin_cases a
  · rfl
  · rfl
  · show c.val * 256 + (i 1).val = 256 * c.val + (i 1).val
    omega

variable (m : (ℓ : Loc nD τ sig) → Buf (Elt Ideal) ℓ) (ρ : Dev nD → PrngReg)

/-- Over the extended reals, when the devices hold the blocks of a whole `x`, what the body leaves on device `c` is its
    column block of the sum of the whole along the device axis. -/
theorem outAt_eq (x : SX.Idx → Elt Ideal .bf16)
    (hx : ∀ d : Dev nD, m ((d : Thread nD τ).loc main_arg0) = Layout.block ⟨3, ![1, 256, 1024]⟩ SX 0 4 d x) (c : Dev nD) :
    outAt m ρ c = Layout.block ⟨2, ![256, 256]⟩ SO 1 4 c (total x) := by
  funext i
  have hk := fun d => chunk_at m ρ x d c (hx d) i
  rw [total_at, ← sum_mesh (fun d => (x (spot d c i) : EReal)) c, ← hk c, ← hk (orig 1 c), ← hk (orig 2 c), ← hk (orig 0 c)]
  rfl

end Cert.ScatterProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the kernel read over the extended reals have one table of bodies. -/
theorem bodies_same : Cert.Kernel.defs₀ (F := Bits) = Cert.KernelIdeal.defs₀ (F := Bits) := by
  unfold Cert.Kernel.defs₀ Cert.KernelIdeal.defs₀
  refine congrArg Defs.onTc (funext fun l => ?_)
  fin_cases l
  rfl

/-- So they have one table of bodies and pipelines. -/
theorem defs_same : Cert.Kernel.defs (F := Bits) = Cert.KernelIdeal.defs (F := Bits) :=
  congrArg (Pipeline.defs _) bodies_same

/-- The kernel ends in every schedule with its argument unchanged and every counter at zero. -/
theorem frame_kernel : Cert.quiescent_Kernel := fun m ρ _ => by
  rw [defs_same]
  exact (θ_run Cert.KernelIdeal.defs _ _).mono
    (fun _ h => ⟨fun c => (h.1 c (0 : Fin 2)).trans (Cert.ScatterProof.finalA_x m ρ c), h.2⟩)
    (Cert.ScatterProof.run_main (F := Bits) m ρ)

/-- So does the kernel over the extended reals. -/
theorem frame_kernelIdeal : Cert.quiescent_KernelIdeal := fun m ρ _ =>
  (θ_run Cert.KernelIdeal.defs _ _).mono
    (fun _ h => ⟨fun c => (h.1 c (0 : Fin 2)).trans (Cert.ScatterProof.finalA_x m ρ c), h.2⟩)
    (Cert.ScatterProof.run_main (F := Ideal) m ρ)

/-- So does the reference, which has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From devices that hold the blocks of the reference's argument, each device's result is its column block of the
    reference's result. -/
theorem algebraic : Cert.algebraic_KernelIdeal_ReferenceIdeal := fun m ρ m' ρ' _ hx =>
  ⟨Cert.ScatterProof.total (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c (1 : Fin 2)).trans ((Cert.ScatterProof.finalA_out m ρ c).trans (Cert.ScatterProof.outAt_eq m ρ _ hx c)),
        (h.1 c (0 : Fin 2)).trans (Cert.ScatterProof.finalA_x m ρ c)⟩)
      (Cert.ScatterProof.run_main (F := Ideal) m ρ),
    (θ_run Cert.ReferenceIdeal.defs _ _).mono (fun _ h => ⟨(h 0).1, (h 0).2⟩)
      (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
